-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v765) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x288x2 : Shape := ⟨3, ![256, 288, 2]⟩
abbrev S256x288x1 : Shape := ⟨3, ![256, 288, 1]⟩
abbrev S256x288 : Shape := ⟨2, ![256, 288]⟩
abbrev S288x256 : Shape := ⟨2, ![288, 256]⟩
abbrev S256x58496 : Shape := ⟨2, ![256, 58496]⟩
abbrev S288x128 : Shape := ⟨2, ![288, 128]⟩
abbrev S128x58496 : Shape := ⟨2, ![128, 58496]⟩
abbrev S8x128 : Shape := ⟨2, ![8, 128]⟩
abbrev S8x1x128 : Shape := ⟨3, ![8, 1, 128]⟩
abbrev S1x8x128 : Shape := ⟨3, ![1, 8, 128]⟩
abbrev S8x8x128 : Shape := ⟨3, ![8, 8, 128]⟩
abbrev S8x8x1x128 : Shape := ⟨4, ![8, 8, 1, 128]⟩
abbrev S8x8x1x1x128 : Shape := ⟨5, ![8, 8, 1, 1, 128]⟩
abbrev S8x8x1x2x128 : Shape := ⟨5, ![8, 8, 1, 2, 128]⟩
abbrev S128x128 : Shape := ⟨2, ![128, 128]⟩
abbrev S24x128 : Shape := ⟨2, ![24, 128]⟩
abbrev S8x3x128 : Shape := ⟨3, ![8, 3, 128]⟩
abbrev S8x8x3x128 : Shape := ⟨4, ![8, 8, 3, 128]⟩
abbrev S8x8x3x1x128 : Shape := ⟨5, ![8, 8, 3, 1, 128]⟩
abbrev S8x8x3x2x128 : Shape := ⟨5, ![8, 8, 3, 2, 128]⟩
abbrev S384x128 : Shape := ⟨2, ![384, 128]⟩
abbrev S128x384 : Shape := ⟨2, ![128, 384]⟩
abbrev S8x8x5x128 : Shape := ⟨4, ![8, 8, 5, 128]⟩
abbrev S8x8x5x1x128 : Shape := ⟨5, ![8, 8, 5, 1, 128]⟩
abbrev S8x8x5x2x128 : Shape := ⟨5, ![8, 8, 5, 2, 128]⟩
abbrev S640x128 : Shape := ⟨2, ![640, 128]⟩
abbrev S128x640 : Shape := ⟨2, ![128, 640]⟩
abbrev S40x128 : Shape := ⟨2, ![40, 128]⟩
abbrev S8x5x128 : Shape := ⟨3, ![8, 5, 128]⟩
abbrev S8x8x7x128 : Shape := ⟨4, ![8, 8, 7, 128]⟩
abbrev S8x8x7x1x128 : Shape := ⟨5, ![8, 8, 7, 1, 128]⟩
abbrev S8x8x7x2x128 : Shape := ⟨5, ![8, 8, 7, 2, 128]⟩
abbrev S896x128 : Shape := ⟨2, ![896, 128]⟩
abbrev S128x896 : Shape := ⟨2, ![128, 896]⟩
abbrev S8x8x9x128 : Shape := ⟨4, ![8, 8, 9, 128]⟩
abbrev S8x8x9x1x128 : Shape := ⟨5, ![8, 8, 9, 1, 128]⟩
abbrev S8x8x9x2x128 : Shape := ⟨5, ![8, 8, 9, 2, 128]⟩
abbrev S1152x128 : Shape := ⟨2, ![1152, 128]⟩
abbrev S128x1152 : Shape := ⟨2, ![128, 1152]⟩
abbrev S56x128 : Shape := ⟨2, ![56, 128]⟩
abbrev S8x7x128 : Shape := ⟨3, ![8, 7, 128]⟩
abbrev S8x8x11x128 : Shape := ⟨4, ![8, 8, 11, 128]⟩
abbrev S8x8x11x1x128 : Shape := ⟨5, ![8, 8, 11, 1, 128]⟩
abbrev S8x8x11x2x128 : Shape := ⟨5, ![8, 8, 11, 2, 128]⟩
abbrev S1408x128 : Shape := ⟨2, ![1408, 128]⟩
abbrev S128x1408 : Shape := ⟨2, ![128, 1408]⟩
abbrev S72x128 : Shape := ⟨2, ![72, 128]⟩
abbrev S8x9x128 : Shape := ⟨3, ![8, 9, 128]⟩
abbrev S88x128 : Shape := ⟨2, ![88, 128]⟩
abbrev S8x11x128 : Shape := ⟨3, ![8, 11, 128]⟩
abbrev S256x29248x2 : Shape := ⟨3, ![256, 29248, 2]⟩

abbrev nBuf : Space → Nat
  | .hbm => 9
  | .vmem => 6
  | .smem => 0
  | _ => 0

abbrev bufTy : (tb : Table) → Fin (tcTables nBuf tb) → BufTy
  | .hbm, ⟨0, _⟩ => ⟨S256x288x2, .f32⟩
  | .hbm, ⟨1, _⟩ => ⟨S256x288x1, .f32⟩
  | .hbm, ⟨2, _⟩ => ⟨S256x288, .f32⟩
  | .hbm, ⟨3, _⟩ => ⟨S288x256, .f32⟩
  | .hbm, ⟨4, _⟩ => ⟨S256x288x1, .f32⟩
  | .hbm, ⟨5, _⟩ => ⟨S256x288, .f32⟩
  | .hbm, ⟨6, _⟩ => ⟨S288x256, .f32⟩
  | .hbm, ⟨7, _⟩ => ⟨S256x58496, .f32⟩
  | .hbm, ⟨8, _⟩ => ⟨S256x29248x2, .f32⟩
  | .local _ .vmem, ⟨0, _⟩ => ⟨S288x128, .f32⟩
  | .local _ .vmem, ⟨1, _⟩ => ⟨S288x128, .f32⟩
  | .local _ .vmem, ⟨2, _⟩ => ⟨S288x128, .f32⟩
  | .local _ .vmem, ⟨3, _⟩ => ⟨S288x128, .f32⟩
  | .local _ .vmem, ⟨4, _⟩ => ⟨S128x58496, .f32⟩
  | .local _ .vmem, ⟨5, _⟩ => ⟨S128x58496, .f32⟩
  | _, _ => ⟨S256x288x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S288x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S288x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x58496 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S256x288x2 : Shape := ⟨3, ![256, 288, 2]⟩
abbrev S1x1x1 : Shape := ⟨3, ![1, 1, 1]⟩
abbrev S1x3x3 : Shape := ⟨3, ![1, 3, 3]⟩
abbrev S1x5x5 : Shape := ⟨3, ![1, 5, 5]⟩
abbrev S1x7x7 : Shape := ⟨3, ![1, 7, 7]⟩
abbrev S1x9x9 : Shape := ⟨3, ![1, 9, 9]⟩
abbrev S1x11x11 : Shape := ⟨3, ![1, 11, 11]⟩
abbrev S3x3x1 : Shape := ⟨3, ![3, 3, 1]⟩
abbrev S3x3x3 : Shape := ⟨3, ![3, 3, 3]⟩
abbrev S3x5x3 : Shape := ⟨3, ![3, 5, 3]⟩
abbrev S3x5x5 : Shape := ⟨3, ![3, 5, 5]⟩
abbrev S3x7x5 : Shape := ⟨3, ![3, 7, 5]⟩
abbrev S3x7x7 : Shape := ⟨3, ![3, 7, 7]⟩
abbrev S3x9x7 : Shape := ⟨3, ![3, 9, 7]⟩
abbrev S3x9x9 : Shape := ⟨3, ![3, 9, 9]⟩
abbrev S3x11x9 : Shape := ⟨3, ![3, 11, 9]⟩
abbrev S3x11x11 : Shape := ⟨3, ![3, 11, 11]⟩
abbrev S5x3x3 : Shape := ⟨3, ![5, 3, 3]⟩
abbrev S5x5x1 : Shape := ⟨3, ![5, 5, 1]⟩
abbrev S5x5x3 : Shape := ⟨3, ![5, 5, 3]⟩
abbrev S5x5x5 : Shape := ⟨3, ![5, 5, 5]⟩
abbrev S5x7x3 : Shape := ⟨3, ![5, 7, 3]⟩
abbrev S5x7x5 : Shape := ⟨3, ![5, 7, 5]⟩
abbrev S5x7x7 : Shape := ⟨3, ![5, 7, 7]⟩
abbrev S5x9x5 : Shape := ⟨3, ![5, 9, 5]⟩
abbrev S5x9x7 : Shape := ⟨3, ![5, 9, 7]⟩
abbrev S5x9x9 : Shape := ⟨3, ![5, 9, 9]⟩
abbrev S5x11x7 : Shape := ⟨3, ![5, 11, 7]⟩
abbrev S5x11x9 : Shape := ⟨3, ![5, 11, 9]⟩
abbrev S5x11x11 : Shape := ⟨3, ![5, 11, 11]⟩
abbrev S7x5x3 : Shape := ⟨3, ![7, 5, 3]⟩
abbrev S7x5x5 : Shape := ⟨3, ![7, 5, 5]⟩
abbrev S7x7x1 : Shape := ⟨3, ![7, 7, 1]⟩
abbrev S7x7x3 : Shape := ⟨3, ![7, 7, 3]⟩
abbrev S7x7x5 : Shape := ⟨3, ![7, 7, 5]⟩
abbrev S7x7x7 : Shape := ⟨3, ![7, 7, 7]⟩
abbrev S7x9x3 : Shape := ⟨3, ![7, 9, 3]⟩
abbrev S7x9x5 : Shape := ⟨3, ![7, 9, 5]⟩
abbrev S7x9x7 : Shape := ⟨3, ![7, 9, 7]⟩
abbrev S7x9x9 : Shape := ⟨3, ![7, 9, 9]⟩
abbrev S7x11x5 : Shape := ⟨3, ![7, 11, 5]⟩
abbrev S7x11x7 : Shape := ⟨3, ![7, 11, 7]⟩
abbrev S7x11x9 : Shape := ⟨3, ![7, 11, 9]⟩
abbrev S7x11x11 : Shape := ⟨3, ![7, 11, 11]⟩
abbrev S9x5x5 : Shape := ⟨3, ![9, 5, 5]⟩
abbrev S9x7x3 : Shape := ⟨3, ![9, 7, 3]⟩
abbrev S9x7x5 : Shape := ⟨3, ![9, 7, 5]⟩
abbrev S9x7x7 : Shape := ⟨3, ![9, 7, 7]⟩
abbrev S9x9x1 : Shape := ⟨3, ![9, 9, 1]⟩
abbrev S9x9x3 : Shape := ⟨3, ![9, 9, 3]⟩
abbrev S9x9x5 : Shape := ⟨3, ![9, 9, 5]⟩
abbrev S9x9x7 : Shape := ⟨3, ![9, 9, 7]⟩
abbrev S9x9x9 : Shape := ⟨3, ![9, 9, 9]⟩
abbrev S9x11x3 : Shape := ⟨3, ![9, 11, 3]⟩
abbrev S9x11x5 : Shape := ⟨3, ![9, 11, 5]⟩
abbrev S9x11x7 : Shape := ⟨3, ![9, 11, 7]⟩
abbrev S9x11x9 : Shape := ⟨3, ![9, 11, 9]⟩
abbrev S9x11x11 : Shape := ⟨3, ![9, 11, 11]⟩
abbrev S11x7x5 : Shape := ⟨3, ![11, 7, 5]⟩
abbrev S11x7x7 : Shape := ⟨3, ![11, 7, 7]⟩
abbrev S11x9x3 : Shape := ⟨3, ![11, 9, 3]⟩
abbrev S11x9x5 : Shape := ⟨3, ![11, 9, 5]⟩
abbrev S11x9x7 : Shape := ⟨3, ![11, 9, 7]⟩
abbrev S11x9x9 : Shape := ⟨3, ![11, 9, 9]⟩
abbrev S11x11x1 : Shape := ⟨3, ![11, 11, 1]⟩
abbrev S11x11x3 : Shape := ⟨3, ![11, 11, 3]⟩
abbrev S11x11x5 : Shape := ⟨3, ![11, 11, 5]⟩
abbrev S11x11x7 : Shape := ⟨3, ![11, 11, 7]⟩
abbrev S11x11x9 : Shape := ⟨3, ![11, 11, 9]⟩
abbrev S11x11x11 : Shape := ⟨3, ![11, 11, 11]⟩
abbrev S256x288x1 : Shape := ⟨3, ![256, 288, 1]⟩
abbrev S256x288 : Shape := ⟨2, ![256, 288]⟩
abbrev S256x8 : Shape := ⟨2, ![256, 8]⟩
abbrev S256x8x1 : Shape := ⟨3, ![256, 8, 1]⟩
abbrev S256x24 : Shape := ⟨2, ![256, 24]⟩
abbrev S256x8x3 : Shape := ⟨3, ![256, 8, 3]⟩
abbrev S256x40 : Shape := ⟨2, ![256, 40]⟩
abbrev S256x8x5 : Shape := ⟨3, ![256, 8, 5]⟩
abbrev S256x56 : Shape := ⟨2, ![256, 56]⟩
abbrev S256x8x7 : Shape := ⟨3, ![256, 8, 7]⟩
abbrev S256x72 : Shape := ⟨2, ![256, 72]⟩
abbrev S256x8x9 : Shape := ⟨3, ![256, 8, 9]⟩
abbrev S256x88 : Shape := ⟨2, ![256, 88]⟩
abbrev S256x8x11 : Shape := ⟨3, ![256, 8, 11]⟩
abbrev S256x8x1x1x1 : Shape := ⟨5, ![256, 8, 1, 1, 1]⟩
abbrev S256x1x8x1x1 : Shape := ⟨5, ![256, 1, 8, 1, 1]⟩
abbrev S256x8x8x1x1 : Shape := ⟨5, ![256, 8, 8, 1, 1]⟩
abbrev S256x8x8x1x1x1 : Shape := ⟨6, ![256, 8, 8, 1, 1, 1]⟩
abbrev S256x8x8x1x1x2 : Shape := ⟨6, ![256, 8, 8, 1, 1, 2]⟩
abbrev S256x8x1x3x1 : Shape := ⟨5, ![256, 8, 1, 3, 1]⟩
abbrev S256x8x8x3x1 : Shape := ⟨5, ![256, 8, 8, 3, 1]⟩
abbrev S256x8x8x3x1x1 : Shape := ⟨6, ![256, 8, 8, 3, 1, 1]⟩
abbrev S256x8x8x3x1x2 : Shape := ⟨6, ![256, 8, 8, 3, 1, 2]⟩
abbrev S256x1x8x1x3 : Shape := ⟨5, ![256, 1, 8, 1, 3]⟩
abbrev S256x8x8x3x3 : Shape := ⟨5, ![256, 8, 8, 3, 3]⟩
abbrev S256x8x8x3x3x1 : Shape := ⟨6, ![256, 8, 8, 3, 3, 1]⟩
abbrev S256x8x8x3x3x2 : Shape := ⟨6, ![256, 8, 8, 3, 3, 2]⟩
abbrev S256x8x1x5x1 : Shape := ⟨5, ![256, 8, 1, 5, 1]⟩
abbrev S256x8x8x5x1 : Shape := ⟨5, ![256, 8, 8, 5, 1]⟩
abbrev S256x8x8x5x1x1 : Shape := ⟨6, ![256, 8, 8, 5, 1, 1]⟩
abbrev S256x8x8x5x1x2 : Shape := ⟨6, ![256, 8, 8, 5, 1, 2]⟩
abbrev S256x8x8x5x3 : Shape := ⟨5, ![256, 8, 8, 5, 3]⟩
abbrev S256x8x8x5x3x1 : Shape := ⟨6, ![256, 8, 8, 5, 3, 1]⟩
abbrev S256x8x8x5x3x2 : Shape := ⟨6, ![256, 8, 8, 5, 3, 2]⟩
abbrev S256x1x8x1x5 : Shape := ⟨5, ![256, 1, 8, 1, 5]⟩
abbrev S256x8x8x5x5 : Shape := ⟨5, ![256, 8, 8, 5, 5]⟩
abbrev S256x8x8x5x5x1 : Shape := ⟨6, ![256, 8, 8, 5, 5, 1]⟩
abbrev S256x8x8x5x5x2 : Shape := ⟨6, ![256, 8, 8, 5, 5, 2]⟩
abbrev S256x8x1x7x1 : Shape := ⟨5, ![256, 8, 1, 7, 1]⟩
abbrev S256x8x8x7x1 : Shape := ⟨5, ![256, 8, 8, 7, 1]⟩
abbrev S256x8x8x7x1x1 : Shape := ⟨6, ![256, 8, 8, 7, 1, 1]⟩
abbrev S256x8x8x7x1x2 : Shape := ⟨6, ![256, 8, 8, 7, 1, 2]⟩
abbrev S256x8x8x7x3 : Shape := ⟨5, ![256, 8, 8, 7, 3]⟩
abbrev S256x8x8x7x3x1 : Shape := ⟨6, ![256, 8, 8, 7, 3, 1]⟩
abbrev S256x8x8x7x3x2 : Shape := ⟨6, ![256, 8, 8, 7, 3, 2]⟩
abbrev S256x8x8x7x5 : Shape := ⟨5, ![256, 8, 8, 7, 5]⟩
abbrev S256x8x8x7x5x1 : Shape := ⟨6, ![256, 8, 8, 7, 5, 1]⟩
abbrev S256x8x8x7x5x2 : Shape := ⟨6, ![256, 8, 8, 7, 5, 2]⟩
abbrev S256x1x8x1x7 : Shape := ⟨5, ![256, 1, 8, 1, 7]⟩
abbrev S256x8x8x7x7 : Shape := ⟨5, ![256, 8, 8, 7, 7]⟩
abbrev S256x8x8x7x7x1 : Shape := ⟨6, ![256, 8, 8, 7, 7, 1]⟩
abbrev S256x8x8x7x7x2 : Shape := ⟨6, ![256, 8, 8, 7, 7, 2]⟩
abbrev S256x8x1x9x1 : Shape := ⟨5, ![256, 8, 1, 9, 1]⟩
abbrev S256x8x8x9x1 : Shape := ⟨5, ![256, 8, 8, 9, 1]⟩
abbrev S256x8x8x9x1x1 : Shape := ⟨6, ![256, 8, 8, 9, 1, 1]⟩
abbrev S256x8x8x9x1x2 : Shape := ⟨6, ![256, 8, 8, 9, 1, 2]⟩
abbrev S256x8x8x9x3 : Shape := ⟨5, ![256, 8, 8, 9, 3]⟩
abbrev S256x8x8x9x3x1 : Shape := ⟨6, ![256, 8, 8, 9, 3, 1]⟩
abbrev S256x8x8x9x3x2 : Shape := ⟨6, ![256, 8, 8, 9, 3, 2]⟩
abbrev S256x8x8x9x5 : Shape := ⟨5, ![256, 8, 8, 9, 5]⟩
abbrev S256x8x8x9x5x1 : Shape := ⟨6, ![256, 8, 8, 9, 5, 1]⟩
abbrev S256x8x8x9x5x2 : Shape := ⟨6, ![256, 8, 8, 9, 5, 2]⟩
abbrev S256x8x8x9x7 : Shape := ⟨5, ![256, 8, 8, 9, 7]⟩
abbrev S256x8x8x9x7x1 : Shape := ⟨6, ![256, 8, 8, 9, 7, 1]⟩
abbrev S256x8x8x9x7x2 : Shape := ⟨6, ![256, 8, 8, 9, 7, 2]⟩
abbrev S256x1x8x1x9 : Shape := ⟨5, ![256, 1, 8, 1, 9]⟩
abbrev S256x8x8x9x9 : Shape := ⟨5, ![256, 8, 8, 9, 9]⟩
abbrev S256x8x8x9x9x1 : Shape := ⟨6, ![256, 8, 8, 9, 9, 1]⟩
abbrev S256x8x8x9x9x2 : Shape := ⟨6, ![256, 8, 8, 9, 9, 2]⟩
abbrev S256x8x1x11x1 : Shape := ⟨5, ![256, 8, 1, 11, 1]⟩
abbrev S256x8x8x11x1 : Shape := ⟨5, ![256, 8, 8, 11, 1]⟩
abbrev S256x8x8x11x1x1 : Shape := ⟨6, ![256, 8, 8, 11, 1, 1]⟩
abbrev S256x8x8x11x1x2 : Shape := ⟨6, ![256, 8, 8, 11, 1, 2]⟩
abbrev S256x8x8x11x3 : Shape := ⟨5, ![256, 8, 8, 11, 3]⟩
abbrev S256x8x8x11x3x1 : Shape := ⟨6, ![256, 8, 8, 11, 3, 1]⟩
abbrev S256x8x8x11x3x2 : Shape := ⟨6, ![256, 8, 8, 11, 3, 2]⟩
abbrev S256x8x8x11x5 : Shape := ⟨5, ![256, 8, 8, 11, 5]⟩
abbrev S256x8x8x11x5x1 : Shape := ⟨6, ![256, 8, 8, 11, 5, 1]⟩
abbrev S256x8x8x11x5x2 : Shape := ⟨6, ![256, 8, 8, 11, 5, 2]⟩
abbrev S256x8x8x11x7 : Shape := ⟨5, ![256, 8, 8, 11, 7]⟩
abbrev S256x8x8x11x7x1 : Shape := ⟨6, ![256, 8, 8, 11, 7, 1]⟩
abbrev S256x8x8x11x7x2 : Shape := ⟨6, ![256, 8, 8, 11, 7, 2]⟩
abbrev S256x8x8x11x9 : Shape := ⟨5, ![256, 8, 8, 11, 9]⟩
abbrev S256x8x8x11x9x1 : Shape := ⟨6, ![256, 8, 8, 11, 9, 1]⟩
abbrev S256x8x8x11x9x2 : Shape := ⟨6, ![256, 8, 8, 11, 9, 2]⟩
abbrev S256x1x8x1x11 : Shape := ⟨5, ![256, 1, 8, 1, 11]⟩
abbrev S256x8x8x11x11 : Shape := ⟨5, ![256, 8, 8, 11, 11]⟩
abbrev S256x8x8x11x11x1 : Shape := ⟨6, ![256, 8, 8, 11, 11, 1]⟩
abbrev S256x8x8x11x11x2 : Shape := ⟨6, ![256, 8, 8, 11, 11, 2]⟩
abbrev S256x8x8x2x1 : Shape := ⟨5, ![256, 8, 8, 2, 1]⟩
abbrev S256x8x8x1x2 : Shape := ⟨5, ![256, 8, 8, 1, 2]⟩
abbrev S256x64x2 : Shape := ⟨3, ![256, 64, 2]⟩
abbrev S256x8x8x2x3 : Shape := ⟨5, ![256, 8, 8, 2, 3]⟩
abbrev S256x8x8x3x2 : Shape := ⟨5, ![256, 8, 8, 3, 2]⟩
abbrev S256x192x2 : Shape := ⟨3, ![256, 192, 2]⟩
abbrev S256x8x8x2x5 : Shape := ⟨5, ![256, 8, 8, 2, 5]⟩
abbrev S256x8x8x5x2 : Shape := ⟨5, ![256, 8, 8, 5, 2]⟩
abbrev S256x320x2 : Shape := ⟨3, ![256, 320, 2]⟩
abbrev S256x8x8x2x7 : Shape := ⟨5, ![256, 8, 8, 2, 7]⟩
abbrev S256x8x8x7x2 : Shape := ⟨5, ![256, 8, 8, 7, 2]⟩
abbrev S256x448x2 : Shape := ⟨3, ![256, 448, 2]⟩
abbrev S256x8x8x2x9 : Shape := ⟨5, ![256, 8, 8, 2, 9]⟩
abbrev S256x8x8x9x2 : Shape := ⟨5, ![256, 8, 8, 9, 2]⟩
abbrev S256x576x2 : Shape := ⟨3, ![256, 576, 2]⟩
abbrev S256x8x8x2x11 : Shape := ⟨5, ![256, 8, 8, 2, 11]⟩
abbrev S256x8x8x11x2 : Shape := ⟨5, ![256, 8, 8, 11, 2]⟩
abbrev S256x704x2 : Shape := ⟨3, ![256, 704, 2]⟩
abbrev S256x2304x2 : Shape := ⟨3, ![256, 2304, 2]⟩
abbrev S256x5504x2 : Shape := ⟨3, ![256, 5504, 2]⟩
abbrev S256x7808x2 : Shape := ⟨3, ![256, 7808, 2]⟩
abbrev S256x10112x2 : Shape := ⟨3, ![256, 10112, 2]⟩
abbrev S256x3520x2 : Shape := ⟨3, ![256, 3520, 2]⟩
abbrev S256x29248x2 : Shape := ⟨3, ![256, 29248, 2]⟩

abbrev nBuf : Space → Nat
  | .hbm => 836
  | .vmem => 0
  | .smem => 0
  | _ => 0

abbrev hbmTy0_0 (i : Nat) : BufTy := match i % 128 with
  | 0 => ⟨S256x288x2, .f32⟩
  | 1 => ⟨S1x1x1, .f32⟩
  | 2 => ⟨S1x3x3, .f32⟩
  | 3 => ⟨S1x5x5, .f32⟩
  | 4 => ⟨S1x7x7, .f32⟩
  | 5 => ⟨S1x9x9, .f32⟩
  | 6 => ⟨S1x11x11, .f32⟩
  | 7 => ⟨S3x3x1, .f32⟩
  | 8 => ⟨S3x3x3, .f32⟩
  | 9 => ⟨S3x5x3, .f32⟩
  | 10 => ⟨S3x5x5, .f32⟩
  | 11 => ⟨S3x7x5, .f32⟩
  | 12 => ⟨S3x7x7, .f32⟩
  | 13 => ⟨S3x9x7, .f32⟩
  | 14 => ⟨S3x9x9, .f32⟩
  | 15 => ⟨S3x11x9, .f32⟩
  | 16 => ⟨S3x11x11, .f32⟩
  | 17 => ⟨S5x3x3, .f32⟩
  | 18 => ⟨S5x5x1, .f32⟩
  | 19 => ⟨S5x5x3, .f32⟩
  | 20 => ⟨S5x5x5, .f32⟩
  | 21 => ⟨S5x7x3, .f32⟩
  | 22 => ⟨S5x7x5, .f32⟩
  | 23 => ⟨S5x7x7, .f32⟩
  | 24 => ⟨S5x9x5, .f32⟩
  | 25 => ⟨S5x9x7, .f32⟩
  | 26 => ⟨S5x9x9, .f32⟩
  | 27 => ⟨S5x11x7, .f32⟩
  | 28 => ⟨S5x11x9, .f32⟩
  | 29 => ⟨S5x11x11, .f32⟩
  | 30 => ⟨S7x5x3, .f32⟩
  | 31 => ⟨S7x5x5, .f32⟩
  | 32 => ⟨S7x7x1, .f32⟩
  | 33 => ⟨S7x7x3, .f32⟩
  | 34 => ⟨S7x7x5, .f32⟩
  | 35 => ⟨S7x7x7, .f32⟩
  | 36 => ⟨S7x9x3, .f32⟩
  | 37 => ⟨S7x9x5, .f32⟩
  | 38 => ⟨S7x9x7, .f32⟩
  | 39 => ⟨S7x9x9, .f32⟩
  | 40 => ⟨S7x11x5, .f32⟩
  | 41 => ⟨S7x11x7, .f32⟩
  | 42 => ⟨S7x11x9, .f32⟩
  | 43 => ⟨S7x11x11, .f32⟩
  | 44 => ⟨S9x5x5, .f32⟩
  | 45 => ⟨S9x7x3, .f32⟩
  | 46 => ⟨S9x7x5, .f32⟩
  | 47 => ⟨S9x7x7, .f32⟩
  | 48 => ⟨S9x9x1, .f32⟩
  | 49 => ⟨S9x9x3, .f32⟩
  | 50 => ⟨S9x9x5, .f32⟩
  | 51 => ⟨S9x9x7, .f32⟩
  | 52 => ⟨S9x9x9, .f32⟩
  | 53 => ⟨S9x11x3, .f32⟩
  | 54 => ⟨S9x11x5, .f32⟩
  | 55 => ⟨S9x11x7, .f32⟩
  | 56 => ⟨S9x11x9, .f32⟩
  | 57 => ⟨S9x11x11, .f32⟩
  | 58 => ⟨S11x7x5, .f32⟩
  | 59 => ⟨S11x7x7, .f32⟩
  | 60 => ⟨S11x9x3, .f32⟩
  | 61 => ⟨S11x9x5, .f32⟩
  | 62 => ⟨S11x9x7, .f32⟩
  | 63 => ⟨S11x9x9, .f32⟩
  | 64 => ⟨S11x11x1, .f32⟩
  | 65 => ⟨S11x11x3, .f32⟩
  | 66 => ⟨S11x11x5, .f32⟩
  | 67 => ⟨S11x11x7, .f32⟩
  | 68 => ⟨S11x11x9, .f32⟩
  | 69 => ⟨S11x11x11, .f32⟩
  | 70 => ⟨S256x288x1, .f32⟩
  | 71 => ⟨S256x288, .f32⟩
  | 72 => ⟨S256x288x1, .f32⟩
  | 73 => ⟨S256x288, .f32⟩
  | 74 => ⟨S256x8, .f32⟩
  | 75 => ⟨S256x8x1, .f32⟩
  | 76 => ⟨S256x24, .f32⟩
  | 77 => ⟨S256x8x3, .f32⟩
  | 78 => ⟨S256x40, .f32⟩
  | 79 => ⟨S256x8x5, .f32⟩
  | 80 => ⟨S256x56, .f32⟩
  | 81 => ⟨S256x8x7, .f32⟩
  | 82 => ⟨S256x72, .f32⟩
  | 83 => ⟨S256x8x9, .f32⟩
  | 84 => ⟨S256x88, .f32⟩
  | 85 => ⟨S256x8x11, .f32⟩
  | 86 => ⟨S256x8, .f32⟩
  | 87 => ⟨S256x8x1, .f32⟩
  | 88 => ⟨S256x24, .f32⟩
  | 89 => ⟨S256x8x3, .f32⟩
  | 90 => ⟨S256x40, .f32⟩
  | 91 => ⟨S256x8x5, .f32⟩
  | 92 => ⟨S256x56, .f32⟩
  | 93 => ⟨S256x8x7, .f32⟩
  | 94 => ⟨S256x72, .f32⟩
  | 95 => ⟨S256x8x9, .f32⟩
  | 96 => ⟨S256x88, .f32⟩
  | 97 => ⟨S256x8x11, .f32⟩
  | 98 => ⟨S256x8x1x1x1, .f32⟩
  | 99 => ⟨S256x1x8x1x1, .f32⟩
  | 100 => ⟨S256x8x8x1x1, .f32⟩
  | 101 => ⟨S256x8x8x1x1, .f32⟩
  | 102 => ⟨S256x8x8x1x1, .f32⟩
  | 103 => ⟨S256x8x1x1x1, .f32⟩
  | 104 => ⟨S256x1x8x1x1, .f32⟩
  | 105 => ⟨S256x8x8x1x1, .f32⟩
  | 106 => ⟨S256x8x8x1x1, .f32⟩
  | 107 => ⟨S256x8x8x1x1, .f32⟩
  | 108 => ⟨S256x8x8x1x1, .f32⟩
  | 109 => ⟨S256x8x1x1x1, .f32⟩
  | 110 => ⟨S256x1x8x1x1, .f32⟩
  | 111 => ⟨S256x8x8x1x1, .f32⟩
  | 112 => ⟨S256x8x8x1x1, .f32⟩
  | 113 => ⟨S256x8x8x1x1, .f32⟩
  | 114 => ⟨S256x8x1x1x1, .f32⟩
  | 115 => ⟨S256x1x8x1x1, .f32⟩
  | 116 => ⟨S256x8x8x1x1, .f32⟩
  | 117 => ⟨S256x8x8x1x1, .f32⟩
  | 118 => ⟨S256x8x8x1x1, .f32⟩
  | 119 => ⟨S256x8x8x1x1, .f32⟩
  | 120 => ⟨S256x8x8x1x1x1, .f32⟩
  | 121 => ⟨S256x8x8x1x1x1, .f32⟩
  | 122 => ⟨S256x8x8x1x1x2, .f32⟩
  | 123 => ⟨S256x8x1x3x1, .f32⟩
  | 124 => ⟨S256x1x8x1x1, .f32⟩
  | 125 => ⟨S256x8x8x3x1, .f32⟩
  | 126 => ⟨S256x8x8x3x1, .f32⟩
  | 127 => ⟨S256x8x8x3x1, .f32⟩
  | _ => ⟨S256x288x2, .f32⟩

abbrev hbmTy0_1 (i : Nat) : BufTy := match i % 128 with
  | 0 => ⟨S256x8x1x3x1, .f32⟩
  | 1 => ⟨S256x1x8x1x1, .f32⟩
  | 2 => ⟨S256x8x8x3x1, .f32⟩
  | 3 => ⟨S256x8x8x3x1, .f32⟩
  | 4 => ⟨S256x8x8x3x1, .f32⟩
  | 5 => ⟨S256x8x8x3x1, .f32⟩
  | 6 => ⟨S256x8x1x3x1, .f32⟩
  | 7 => ⟨S256x1x8x1x1, .f32⟩
  | 8 => ⟨S256x8x8x3x1, .f32⟩
  | 9 => ⟨S256x8x8x3x1, .f32⟩
  | 10 => ⟨S256x8x8x3x1, .f32⟩
  | 11 => ⟨S256x8x1x3x1, .f32⟩
  | 12 => ⟨S256x1x8x1x1, .f32⟩
  | 13 => ⟨S256x8x8x3x1, .f32⟩
  | 14 => ⟨S256x8x8x3x1, .f32⟩
  | 15 => ⟨S256x8x8x3x1, .f32⟩
  | 16 => ⟨S256x8x8x3x1, .f32⟩
  | 17 => ⟨S256x8x8x3x1x1, .f32⟩
  | 18 => ⟨S256x8x8x3x1x1, .f32⟩
  | 19 => ⟨S256x8x8x3x1x2, .f32⟩
  | 20 => ⟨S256x8x1x3x1, .f32⟩
  | 21 => ⟨S256x1x8x1x3, .f32⟩
  | 22 => ⟨S256x8x8x3x3, .f32⟩
  | 23 => ⟨S256x8x8x3x3, .f32⟩
  | 24 => ⟨S256x8x8x3x3, .f32⟩
  | 25 => ⟨S256x8x1x3x1, .f32⟩
  | 26 => ⟨S256x1x8x1x3, .f32⟩
  | 27 => ⟨S256x8x8x3x3, .f32⟩
  | 28 => ⟨S256x8x8x3x3, .f32⟩
  | 29 => ⟨S256x8x8x3x3, .f32⟩
  | 30 => ⟨S256x8x8x3x3, .f32⟩
  | 31 => ⟨S256x8x1x3x1, .f32⟩
  | 32 => ⟨S256x1x8x1x3, .f32⟩
  | 33 => ⟨S256x8x8x3x3, .f32⟩
  | 34 => ⟨S256x8x8x3x3, .f32⟩
  | 35 => ⟨S256x8x8x3x3, .f32⟩
  | 36 => ⟨S256x8x1x3x1, .f32⟩
  | 37 => ⟨S256x1x8x1x3, .f32⟩
  | 38 => ⟨S256x8x8x3x3, .f32⟩
  | 39 => ⟨S256x8x8x3x3, .f32⟩
  | 40 => ⟨S256x8x8x3x3, .f32⟩
  | 41 => ⟨S256x8x8x3x3, .f32⟩
  | 42 => ⟨S256x8x8x3x3x1, .f32⟩
  | 43 => ⟨S256x8x8x3x3x1, .f32⟩
  | 44 => ⟨S256x8x8x3x3x2, .f32⟩
  | 45 => ⟨S256x8x1x5x1, .f32⟩
  | 46 => ⟨S256x1x8x1x1, .f32⟩
  | 47 => ⟨S256x8x8x5x1, .f32⟩
  | 48 => ⟨S256x8x8x5x1, .f32⟩
  | 49 => ⟨S256x8x8x5x1, .f32⟩
  | 50 => ⟨S256x8x1x5x1, .f32⟩
  | 51 => ⟨S256x1x8x1x1, .f32⟩
  | 52 => ⟨S256x8x8x5x1, .f32⟩
  | 53 => ⟨S256x8x8x5x1, .f32⟩
  | 54 => ⟨S256x8x8x5x1, .f32⟩
  | 55 => ⟨S256x8x8x5x1, .f32⟩
  | 56 => ⟨S256x8x1x5x1, .f32⟩
  | 57 => ⟨S256x1x8x1x1, .f32⟩
  | 58 => ⟨S256x8x8x5x1, .f32⟩
  | 59 => ⟨S256x8x8x5x1, .f32⟩
  | 60 => ⟨S256x8x8x5x1, .f32⟩
  | 61 => ⟨S256x8x1x5x1, .f32⟩
  | 62 => ⟨S256x1x8x1x1, .f32⟩
  | 63 => ⟨S256x8x8x5x1, .f32⟩
  | 64 => ⟨S256x8x8x5x1, .f32⟩
  | 65 => ⟨S256x8x8x5x1, .f32⟩
  | 66 => ⟨S256x8x8x5x1, .f32⟩
  | 67 => ⟨S256x8x8x5x1x1, .f32⟩
  | 68 => ⟨S256x8x8x5x1x1, .f32⟩
  | 69 => ⟨S256x8x8x5x1x2, .f32⟩
  | 70 => ⟨S256x8x1x5x1, .f32⟩
  | 71 => ⟨S256x1x8x1x3, .f32⟩
  | 72 => ⟨S256x8x8x5x3, .f32⟩
  | 73 => ⟨S256x8x8x5x3, .f32⟩
  | 74 => ⟨S256x8x8x5x3, .f32⟩
  | 75 => ⟨S256x8x1x5x1, .f32⟩
  | 76 => ⟨S256x1x8x1x3, .f32⟩
  | 77 => ⟨S256x8x8x5x3, .f32⟩
  | 78 => ⟨S256x8x8x5x3, .f32⟩
  | 79 => ⟨S256x8x8x5x3, .f32⟩
  | 80 => ⟨S256x8x8x5x3, .f32⟩
  | 81 => ⟨S256x8x1x5x1, .f32⟩
  | 82 => ⟨S256x1x8x1x3, .f32⟩
  | 83 => ⟨S256x8x8x5x3, .f32⟩
  | 84 => ⟨S256x8x8x5x3, .f32⟩
  | 85 => ⟨S256x8x8x5x3, .f32⟩
  | 86 => ⟨S256x8x1x5x1, .f32⟩
  | 87 => ⟨S256x1x8x1x3, .f32⟩
  | 88 => ⟨S256x8x8x5x3, .f32⟩
  | 89 => ⟨S256x8x8x5x3, .f32⟩
  | 90 => ⟨S256x8x8x5x3, .f32⟩
  | 91 => ⟨S256x8x8x5x3, .f32⟩
  | 92 => ⟨S256x8x8x5x3x1, .f32⟩
  | 93 => ⟨S256x8x8x5x3x1, .f32⟩
  | 94 => ⟨S256x8x8x5x3x2, .f32⟩
  | 95 => ⟨S256x8x1x5x1, .f32⟩
  | 96 => ⟨S256x1x8x1x5, .f32⟩
  | 97 => ⟨S256x8x8x5x5, .f32⟩
  | 98 => ⟨S256x8x8x5x5, .f32⟩
  | 99 => ⟨S256x8x8x5x5, .f32⟩
  | 100 => ⟨S256x8x1x5x1, .f32⟩
  | 101 => ⟨S256x1x8x1x5, .f32⟩
  | 102 => ⟨S256x8x8x5x5, .f32⟩
  | 103 => ⟨S256x8x8x5x5, .f32⟩
  | 104 => ⟨S256x8x8x5x5, .f32⟩
  | 105 => ⟨S256x8x8x5x5, .f32⟩
  | 106 => ⟨S256x8x1x5x1, .f32⟩
  | 107 => ⟨S256x1x8x1x5, .f32⟩
  | 108 => ⟨S256x8x8x5x5, .f32⟩
  | 109 => ⟨S256x8x8x5x5, .f32⟩
  | 110 => ⟨S256x8x8x5x5, .f32⟩
  | 111 => ⟨S256x8x1x5x1, .f32⟩
  | 112 => ⟨S256x1x8x1x5, .f32⟩
  | 113 => ⟨S256x8x8x5x5, .f32⟩
  | 114 => ⟨S256x8x8x5x5, .f32⟩
  | 115 => ⟨S256x8x8x5x5, .f32⟩
  | 116 => ⟨S256x8x8x5x5, .f32⟩
  | 117 => ⟨S256x8x8x5x5x1, .f32⟩
  | 118 => ⟨S256x8x8x5x5x1, .f32⟩
  | 119 => ⟨S256x8x8x5x5x2, .f32⟩
  | 120 => ⟨S256x8x1x7x1, .f32⟩
  | 121 => ⟨S256x1x8x1x1, .f32⟩
  | 122 => ⟨S256x8x8x7x1, .f32⟩
  | 123 => ⟨S256x8x8x7x1, .f32⟩
  | 124 => ⟨S256x8x8x7x1, .f32⟩
  | 125 => ⟨S256x8x1x7x1, .f32⟩
  | 126 => ⟨S256x1x8x1x1, .f32⟩
  | 127 => ⟨S256x8x8x7x1, .f32⟩
  | _ => ⟨S256x288x2, .f32⟩

abbrev hbmTy0_2 (i : Nat) : BufTy := match i % 128 with
  | 0 => ⟨S256x8x8x7x1, .f32⟩
  | 1 => ⟨S256x8x8x7x1, .f32⟩
  | 2 => ⟨S256x8x8x7x1, .f32⟩
  | 3 => ⟨S256x8x1x7x1, .f32⟩
  | 4 => ⟨S256x1x8x1x1, .f32⟩
  | 5 => ⟨S256x8x8x7x1, .f32⟩
  | 6 => ⟨S256x8x8x7x1, .f32⟩
  | 7 => ⟨S256x8x8x7x1, .f32⟩
  | 8 => ⟨S256x8x1x7x1, .f32⟩
  | 9 => ⟨S256x1x8x1x1, .f32⟩
  | 10 => ⟨S256x8x8x7x1, .f32⟩
  | 11 => ⟨S256x8x8x7x1, .f32⟩
  | 12 => ⟨S256x8x8x7x1, .f32⟩
  | 13 => ⟨S256x8x8x7x1, .f32⟩
  | 14 => ⟨S256x8x8x7x1x1, .f32⟩
  | 15 => ⟨S256x8x8x7x1x1, .f32⟩
  | 16 => ⟨S256x8x8x7x1x2, .f32⟩
  | 17 => ⟨S256x8x1x7x1, .f32⟩
  | 18 => ⟨S256x1x8x1x3, .f32⟩
  | 19 => ⟨S256x8x8x7x3, .f32⟩
  | 20 => ⟨S256x8x8x7x3, .f32⟩
  | 21 => ⟨S256x8x8x7x3, .f32⟩
  | 22 => ⟨S256x8x1x7x1, .f32⟩
  | 23 => ⟨S256x1x8x1x3, .f32⟩
  | 24 => ⟨S256x8x8x7x3, .f32⟩
  | 25 => ⟨S256x8x8x7x3, .f32⟩
  | 26 => ⟨S256x8x8x7x3, .f32⟩
  | 27 => ⟨S256x8x8x7x3, .f32⟩
  | 28 => ⟨S256x8x1x7x1, .f32⟩
  | 29 => ⟨S256x1x8x1x3, .f32⟩
  | 30 => ⟨S256x8x8x7x3, .f32⟩
  | 31 => ⟨S256x8x8x7x3, .f32⟩
  | 32 => ⟨S256x8x8x7x3, .f32⟩
  | 33 => ⟨S256x8x1x7x1, .f32⟩
  | 34 => ⟨S256x1x8x1x3, .f32⟩
  | 35 => ⟨S256x8x8x7x3, .f32⟩
  | 36 => ⟨S256x8x8x7x3, .f32⟩
  | 37 => ⟨S256x8x8x7x3, .f32⟩
  | 38 => ⟨S256x8x8x7x3, .f32⟩
  | 39 => ⟨S256x8x8x7x3x1, .f32⟩
  | 40 => ⟨S256x8x8x7x3x1, .f32⟩
  | 41 => ⟨S256x8x8x7x3x2, .f32⟩
  | 42 => ⟨S256x8x1x7x1, .f32⟩
  | 43 => ⟨S256x1x8x1x5, .f32⟩
  | 44 => ⟨S256x8x8x7x5, .f32⟩
  | 45 => ⟨S256x8x8x7x5, .f32⟩
  | 46 => ⟨S256x8x8x7x5, .f32⟩
  | 47 => ⟨S256x8x1x7x1, .f32⟩
  | 48 => ⟨S256x1x8x1x5, .f32⟩
  | 49 => ⟨S256x8x8x7x5, .f32⟩
  | 50 => ⟨S256x8x8x7x5, .f32⟩
  | 51 => ⟨S256x8x8x7x5, .f32⟩
  | 52 => ⟨S256x8x8x7x5, .f32⟩
  | 53 => ⟨S256x8x1x7x1, .f32⟩
  | 54 => ⟨S256x1x8x1x5, .f32⟩
  | 55 => ⟨S256x8x8x7x5, .f32⟩
  | 56 => ⟨S256x8x8x7x5, .f32⟩
  | 57 => ⟨S256x8x8x7x5, .f32⟩
  | 58 => ⟨S256x8x1x7x1, .f32⟩
  | 59 => ⟨S256x1x8x1x5, .f32⟩
  | 60 => ⟨S256x8x8x7x5, .f32⟩
  | 61 => ⟨S256x8x8x7x5, .f32⟩
  | 62 => ⟨S256x8x8x7x5, .f32⟩
  | 63 => ⟨S256x8x8x7x5, .f32⟩
  | 64 => ⟨S256x8x8x7x5x1, .f32⟩
  | 65 => ⟨S256x8x8x7x5x1, .f32⟩
  | 66 => ⟨S256x8x8x7x5x2, .f32⟩
  | 67 => ⟨S256x8x1x7x1, .f32⟩
  | 68 => ⟨S256x1x8x1x7, .f32⟩
  | 69 => ⟨S256x8x8x7x7, .f32⟩
  | 70 => ⟨S256x8x8x7x7, .f32⟩
  | 71 => ⟨S256x8x8x7x7, .f32⟩
  | 72 => ⟨S256x8x1x7x1, .f32⟩
  | 73 => ⟨S256x1x8x1x7, .f32⟩
  | 74 => ⟨S256x8x8x7x7, .f32⟩
  | 75 => ⟨S256x8x8x7x7, .f32⟩
  | 76 => ⟨S256x8x8x7x7, .f32⟩
  | 77 => ⟨S256x8x8x7x7, .f32⟩
  | 78 => ⟨S256x8x1x7x1, .f32⟩
  | 79 => ⟨S256x1x8x1x7, .f32⟩
  | 80 => ⟨S256x8x8x7x7, .f32⟩
  | 81 => ⟨S256x8x8x7x7, .f32⟩
  | 82 => ⟨S256x8x8x7x7, .f32⟩
  | 83 => ⟨S256x8x1x7x1, .f32⟩
  | 84 => ⟨S256x1x8x1x7, .f32⟩
  | 85 => ⟨S256x8x8x7x7, .f32⟩
  | 86 => ⟨S256x8x8x7x7, .f32⟩
  | 87 => ⟨S256x8x8x7x7, .f32⟩
  | 88 => ⟨S256x8x8x7x7, .f32⟩
  | 89 => ⟨S256x8x8x7x7x1, .f32⟩
  | 90 => ⟨S256x8x8x7x7x1, .f32⟩
  | 91 => ⟨S256x8x8x7x7x2, .f32⟩
  | 92 => ⟨S256x8x1x9x1, .f32⟩
  | 93 => ⟨S256x1x8x1x1, .f32⟩
  | 94 => ⟨S256x8x8x9x1, .f32⟩
  | 95 => ⟨S256x8x8x9x1, .f32⟩
  | 96 => ⟨S256x8x8x9x1, .f32⟩
  | 97 => ⟨S256x8x1x9x1, .f32⟩
  | 98 => ⟨S256x1x8x1x1, .f32⟩
  | 99 => ⟨S256x8x8x9x1, .f32⟩
  | 100 => ⟨S256x8x8x9x1, .f32⟩
  | 101 => ⟨S256x8x8x9x1, .f32⟩
  | 102 => ⟨S256x8x8x9x1, .f32⟩
  | 103 => ⟨S256x8x1x9x1, .f32⟩
  | 104 => ⟨S256x1x8x1x1, .f32⟩
  | 105 => ⟨S256x8x8x9x1, .f32⟩
  | 106 => ⟨S256x8x8x9x1, .f32⟩
  | 107 => ⟨S256x8x8x9x1, .f32⟩
  | 108 => ⟨S256x8x1x9x1, .f32⟩
  | 109 => ⟨S256x1x8x1x1, .f32⟩
  | 110 => ⟨S256x8x8x9x1, .f32⟩
  | 111 => ⟨S256x8x8x9x1, .f32⟩
  | 112 => ⟨S256x8x8x9x1, .f32⟩
  | 113 => ⟨S256x8x8x9x1, .f32⟩
  | 114 => ⟨S256x8x8x9x1x1, .f32⟩
  | 115 => ⟨S256x8x8x9x1x1, .f32⟩
  | 116 => ⟨S256x8x8x9x1x2, .f32⟩
  | 117 => ⟨S256x8x1x9x1, .f32⟩
  | 118 => ⟨S256x1x8x1x3, .f32⟩
  | 119 => ⟨S256x8x8x9x3, .f32⟩
  | 120 => ⟨S256x8x8x9x3, .f32⟩
  | 121 => ⟨S256x8x8x9x3, .f32⟩
  | 122 => ⟨S256x8x1x9x1, .f32⟩
  | 123 => ⟨S256x1x8x1x3, .f32⟩
  | 124 => ⟨S256x8x8x9x3, .f32⟩
  | 125 => ⟨S256x8x8x9x3, .f32⟩
  | 126 => ⟨S256x8x8x9x3, .f32⟩
  | 127 => ⟨S256x8x8x9x3, .f32⟩
  | _ => ⟨S256x288x2, .f32⟩

abbrev hbmTy0_3 (i : Nat) : BufTy := match i % 128 with
  | 0 => ⟨S256x8x1x9x1, .f32⟩
  | 1 => ⟨S256x1x8x1x3, .f32⟩
  | 2 => ⟨S256x8x8x9x3, .f32⟩
  | 3 => ⟨S256x8x8x9x3, .f32⟩
  | 4 => ⟨S256x8x8x9x3, .f32⟩
  | 5 => ⟨S256x8x1x9x1, .f32⟩
  | 6 => ⟨S256x1x8x1x3, .f32⟩
  | 7 => ⟨S256x8x8x9x3, .f32⟩
  | 8 => ⟨S256x8x8x9x3, .f32⟩
  | 9 => ⟨S256x8x8x9x3, .f32⟩
  | 10 => ⟨S256x8x8x9x3, .f32⟩
  | 11 => ⟨S256x8x8x9x3x1, .f32⟩
  | 12 => ⟨S256x8x8x9x3x1, .f32⟩
  | 13 => ⟨S256x8x8x9x3x2, .f32⟩
  | 14 => ⟨S256x8x1x9x1, .f32⟩
  | 15 => ⟨S256x1x8x1x5, .f32⟩
  | 16 => ⟨S256x8x8x9x5, .f32⟩
  | 17 => ⟨S256x8x8x9x5, .f32⟩
  | 18 => ⟨S256x8x8x9x5, .f32⟩
  | 19 => ⟨S256x8x1x9x1, .f32⟩
  | 20 => ⟨S256x1x8x1x5, .f32⟩
  | 21 => ⟨S256x8x8x9x5, .f32⟩
  | 22 => ⟨S256x8x8x9x5, .f32⟩
  | 23 => ⟨S256x8x8x9x5, .f32⟩
  | 24 => ⟨S256x8x8x9x5, .f32⟩
  | 25 => ⟨S256x8x1x9x1, .f32⟩
  | 26 => ⟨S256x1x8x1x5, .f32⟩
  | 27 => ⟨S256x8x8x9x5, .f32⟩
  | 28 => ⟨S256x8x8x9x5, .f32⟩
  | 29 => ⟨S256x8x8x9x5, .f32⟩
  | 30 => ⟨S256x8x1x9x1, .f32⟩
  | 31 => ⟨S256x1x8x1x5, .f32⟩
  | 32 => ⟨S256x8x8x9x5, .f32⟩
  | 33 => ⟨S256x8x8x9x5, .f32⟩
  | 34 => ⟨S256x8x8x9x5, .f32⟩
  | 35 => ⟨S256x8x8x9x5, .f32⟩
  | 36 => ⟨S256x8x8x9x5x1, .f32⟩
  | 37 => ⟨S256x8x8x9x5x1, .f32⟩
  | 38 => ⟨S256x8x8x9x5x2, .f32⟩
  | 39 => ⟨S256x8x1x9x1, .f32⟩
  | 40 => ⟨S256x1x8x1x7, .f32⟩
  | 41 => ⟨S256x8x8x9x7, .f32⟩
  | 42 => ⟨S256x8x8x9x7, .f32⟩
  | 43 => ⟨S256x8x8x9x7, .f32⟩
  | 44 => ⟨S256x8x1x9x1, .f32⟩
  | 45 => ⟨S256x1x8x1x7, .f32⟩
  | 46 => ⟨S256x8x8x9x7, .f32⟩
  | 47 => ⟨S256x8x8x9x7, .f32⟩
  | 48 => ⟨S256x8x8x9x7, .f32⟩
  | 49 => ⟨S256x8x8x9x7, .f32⟩
  | 50 => ⟨S256x8x1x9x1, .f32⟩
  | 51 => ⟨S256x1x8x1x7, .f32⟩
  | 52 => ⟨S256x8x8x9x7, .f32⟩
  | 53 => ⟨S256x8x8x9x7, .f32⟩
  | 54 => ⟨S256x8x8x9x7, .f32⟩
  | 55 => ⟨S256x8x1x9x1, .f32⟩
  | 56 => ⟨S256x1x8x1x7, .f32⟩
  | 57 => ⟨S256x8x8x9x7, .f32⟩
  | 58 => ⟨S256x8x8x9x7, .f32⟩
  | 59 => ⟨S256x8x8x9x7, .f32⟩
  | 60 => ⟨S256x8x8x9x7, .f32⟩
  | 61 => ⟨S256x8x8x9x7x1, .f32⟩
  | 62 => ⟨S256x8x8x9x7x1, .f32⟩
  | 63 => ⟨S256x8x8x9x7x2, .f32⟩
  | 64 => ⟨S256x8x1x9x1, .f32⟩
  | 65 => ⟨S256x1x8x1x9, .f32⟩
  | 66 => ⟨S256x8x8x9x9, .f32⟩
  | 67 => ⟨S256x8x8x9x9, .f32⟩
  | 68 => ⟨S256x8x8x9x9, .f32⟩
  | 69 => ⟨S256x8x1x9x1, .f32⟩
  | 70 => ⟨S256x1x8x1x9, .f32⟩
  | 71 => ⟨S256x8x8x9x9, .f32⟩
  | 72 => ⟨S256x8x8x9x9, .f32⟩
  | 73 => ⟨S256x8x8x9x9, .f32⟩
  | 74 => ⟨S256x8x8x9x9, .f32⟩
  | 75 => ⟨S256x8x1x9x1, .f32⟩
  | 76 => ⟨S256x1x8x1x9, .f32⟩
  | 77 => ⟨S256x8x8x9x9, .f32⟩
  | 78 => ⟨S256x8x8x9x9, .f32⟩
  | 79 => ⟨S256x8x8x9x9, .f32⟩
  | 80 => ⟨S256x8x1x9x1, .f32⟩
  | 81 => ⟨S256x1x8x1x9, .f32⟩
  | 82 => ⟨S256x8x8x9x9, .f32⟩
  | 83 => ⟨S256x8x8x9x9, .f32⟩
  | 84 => ⟨S256x8x8x9x9, .f32⟩
  | 85 => ⟨S256x8x8x9x9, .f32⟩
  | 86 => ⟨S256x8x8x9x9x1, .f32⟩
  | 87 => ⟨S256x8x8x9x9x1, .f32⟩
  | 88 => ⟨S256x8x8x9x9x2, .f32⟩
  | 89 => ⟨S256x8x1x11x1, .f32⟩
  | 90 => ⟨S256x1x8x1x1, .f32⟩
  | 91 => ⟨S256x8x8x11x1, .f32⟩
  | 92 => ⟨S256x8x8x11x1, .f32⟩
  | 93 => ⟨S256x8x8x11x1, .f32⟩
  | 94 => ⟨S256x8x1x11x1, .f32⟩
  | 95 => ⟨S256x1x8x1x1, .f32⟩
  | 96 => ⟨S256x8x8x11x1, .f32⟩
  | 97 => ⟨S256x8x8x11x1, .f32⟩
  | 98 => ⟨S256x8x8x11x1, .f32⟩
  | 99 => ⟨S256x8x8x11x1, .f32⟩
  | 100 => ⟨S256x8x1x11x1, .f32⟩
  | 101 => ⟨S256x1x8x1x1, .f32⟩
  | 102 => ⟨S256x8x8x11x1, .f32⟩
  | 103 => ⟨S256x8x8x11x1, .f32⟩
  | 104 => ⟨S256x8x8x11x1, .f32⟩
  | 105 => ⟨S256x8x1x11x1, .f32⟩
  | 106 => ⟨S256x1x8x1x1, .f32⟩
  | 107 => ⟨S256x8x8x11x1, .f32⟩
  | 108 => ⟨S256x8x8x11x1, .f32⟩
  | 109 => ⟨S256x8x8x11x1, .f32⟩
  | 110 => ⟨S256x8x8x11x1, .f32⟩
  | 111 => ⟨S256x8x8x11x1x1, .f32⟩
  | 112 => ⟨S256x8x8x11x1x1, .f32⟩
  | 113 => ⟨S256x8x8x11x1x2, .f32⟩
  | 114 => ⟨S256x8x1x11x1, .f32⟩
  | 115 => ⟨S256x1x8x1x3, .f32⟩
  | 116 => ⟨S256x8x8x11x3, .f32⟩
  | 117 => ⟨S256x8x8x11x3, .f32⟩
  | 118 => ⟨S256x8x8x11x3, .f32⟩
  | 119 => ⟨S256x8x1x11x1, .f32⟩
  | 120 => ⟨S256x1x8x1x3, .f32⟩
  | 121 => ⟨S256x8x8x11x3, .f32⟩
  | 122 => ⟨S256x8x8x11x3, .f32⟩
  | 123 => ⟨S256x8x8x11x3, .f32⟩
  | 124 => ⟨S256x8x8x11x3, .f32⟩
  | 125 => ⟨S256x8x1x11x1, .f32⟩
  | 126 => ⟨S256x1x8x1x3, .f32⟩
  | 127 => ⟨S256x8x8x11x3, .f32⟩
  | _ => ⟨S256x288x2, .f32⟩

abbrev hbmTy0_4 (i : Nat) : BufTy := match i % 128 with
  | 0 => ⟨S256x8x8x11x3, .f32⟩
  | 1 => ⟨S256x8x8x11x3, .f32⟩
  | 2 => ⟨S256x8x1x11x1, .f32⟩
  | 3 => ⟨S256x1x8x1x3, .f32⟩
  | 4 => ⟨S256x8x8x11x3, .f32⟩
  | 5 => ⟨S256x8x8x11x3, .f32⟩
  | 6 => ⟨S256x8x8x11x3, .f32⟩
  | 7 => ⟨S256x8x8x11x3, .f32⟩
  | 8 => ⟨S256x8x8x11x3x1, .f32⟩
  | 9 => ⟨S256x8x8x11x3x1, .f32⟩
  | 10 => ⟨S256x8x8x11x3x2, .f32⟩
  | 11 => ⟨S256x8x1x11x1, .f32⟩
  | 12 => ⟨S256x1x8x1x5, .f32⟩
  | 13 => ⟨S256x8x8x11x5, .f32⟩
  | 14 => ⟨S256x8x8x11x5, .f32⟩
  | 15 => ⟨S256x8x8x11x5, .f32⟩
  | 16 => ⟨S256x8x1x11x1, .f32⟩
  | 17 => ⟨S256x1x8x1x5, .f32⟩
  | 18 => ⟨S256x8x8x11x5, .f32⟩
  | 19 => ⟨S256x8x8x11x5, .f32⟩
  | 20 => ⟨S256x8x8x11x5, .f32⟩
  | 21 => ⟨S256x8x8x11x5, .f32⟩
  | 22 => ⟨S256x8x1x11x1, .f32⟩
  | 23 => ⟨S256x1x8x1x5, .f32⟩
  | 24 => ⟨S256x8x8x11x5, .f32⟩
  | 25 => ⟨S256x8x8x11x5, .f32⟩
  | 26 => ⟨S256x8x8x11x5, .f32⟩
  | 27 => ⟨S256x8x1x11x1, .f32⟩
  | 28 => ⟨S256x1x8x1x5, .f32⟩
  | 29 => ⟨S256x8x8x11x5, .f32⟩
  | 30 => ⟨S256x8x8x11x5, .f32⟩
  | 31 => ⟨S256x8x8x11x5, .f32⟩
  | 32 => ⟨S256x8x8x11x5, .f32⟩
  | 33 => ⟨S256x8x8x11x5x1, .f32⟩
  | 34 => ⟨S256x8x8x11x5x1, .f32⟩
  | 35 => ⟨S256x8x8x11x5x2, .f32⟩
  | 36 => ⟨S256x8x1x11x1, .f32⟩
  | 37 => ⟨S256x1x8x1x7, .f32⟩
  | 38 => ⟨S256x8x8x11x7, .f32⟩
  | 39 => ⟨S256x8x8x11x7, .f32⟩
  | 40 => ⟨S256x8x8x11x7, .f32⟩
  | 41 => ⟨S256x8x1x11x1, .f32⟩
  | 42 => ⟨S256x1x8x1x7, .f32⟩
  | 43 => ⟨S256x8x8x11x7, .f32⟩
  | 44 => ⟨S256x8x8x11x7, .f32⟩
  | 45 => ⟨S256x8x8x11x7, .f32⟩
  | 46 => ⟨S256x8x8x11x7, .f32⟩
  | 47 => ⟨S256x8x1x11x1, .f32⟩
  | 48 => ⟨S256x1x8x1x7, .f32⟩
  | 49 => ⟨S256x8x8x11x7, .f32⟩
  | 50 => ⟨S256x8x8x11x7, .f32⟩
  | 51 => ⟨S256x8x8x11x7, .f32⟩
  | 52 => ⟨S256x8x1x11x1, .f32⟩
  | 53 => ⟨S256x1x8x1x7, .f32⟩
  | 54 => ⟨S256x8x8x11x7, .f32⟩
  | 55 => ⟨S256x8x8x11x7, .f32⟩
  | 56 => ⟨S256x8x8x11x7, .f32⟩
  | 57 => ⟨S256x8x8x11x7, .f32⟩
  | 58 => ⟨S256x8x8x11x7x1, .f32⟩
  | 59 => ⟨S256x8x8x11x7x1, .f32⟩
  | 60 => ⟨S256x8x8x11x7x2, .f32⟩
  | 61 => ⟨S256x8x1x11x1, .f32⟩
  | 62 => ⟨S256x1x8x1x9, .f32⟩
  | 63 => ⟨S256x8x8x11x9, .f32⟩
  | 64 => ⟨S256x8x8x11x9, .f32⟩
  | 65 => ⟨S256x8x8x11x9, .f32⟩
  | 66 => ⟨S256x8x1x11x1, .f32⟩
  | 67 => ⟨S256x1x8x1x9, .f32⟩
  | 68 => ⟨S256x8x8x11x9, .f32⟩
  | 69 => ⟨S256x8x8x11x9, .f32⟩
  | 70 => ⟨S256x8x8x11x9, .f32⟩
  | 71 => ⟨S256x8x8x11x9, .f32⟩
  | 72 => ⟨S256x8x1x11x1, .f32⟩
  | 73 => ⟨S256x1x8x1x9, .f32⟩
  | 74 => ⟨S256x8x8x11x9, .f32⟩
  | 75 => ⟨S256x8x8x11x9, .f32⟩
  | 76 => ⟨S256x8x8x11x9, .f32⟩
  | 77 => ⟨S256x8x1x11x1, .f32⟩
  | 78 => ⟨S256x1x8x1x9, .f32⟩
  | 79 => ⟨S256x8x8x11x9, .f32⟩
  | 80 => ⟨S256x8x8x11x9, .f32⟩
  | 81 => ⟨S256x8x8x11x9, .f32⟩
  | 82 => ⟨S256x8x8x11x9, .f32⟩
  | 83 => ⟨S256x8x8x11x9x1, .f32⟩
  | 84 => ⟨S256x8x8x11x9x1, .f32⟩
  | 85 => ⟨S256x8x8x11x9x2, .f32⟩
  | 86 => ⟨S256x8x1x11x1, .f32⟩
  | 87 => ⟨S256x1x8x1x11, .f32⟩
  | 88 => ⟨S256x8x8x11x11, .f32⟩
  | 89 => ⟨S256x8x8x11x11, .f32⟩
  | 90 => ⟨S256x8x8x11x11, .f32⟩
  | 91 => ⟨S256x8x1x11x1, .f32⟩
  | 92 => ⟨S256x1x8x1x11, .f32⟩
  | 93 => ⟨S256x8x8x11x11, .f32⟩
  | 94 => ⟨S256x8x8x11x11, .f32⟩
  | 95 => ⟨S256x8x8x11x11, .f32⟩
  | 96 => ⟨S256x8x8x11x11, .f32⟩
  | 97 => ⟨S256x8x1x11x1, .f32⟩
  | 98 => ⟨S256x1x8x1x11, .f32⟩
  | 99 => ⟨S256x8x8x11x11, .f32⟩
  | 100 => ⟨S256x8x8x11x11, .f32⟩
  | 101 => ⟨S256x8x8x11x11, .f32⟩
  | 102 => ⟨S256x8x1x11x1, .f32⟩
  | 103 => ⟨S256x1x8x1x11, .f32⟩
  | 104 => ⟨S256x8x8x11x11, .f32⟩
  | 105 => ⟨S256x8x8x11x11, .f32⟩
  | 106 => ⟨S256x8x8x11x11, .f32⟩
  | 107 => ⟨S256x8x8x11x11, .f32⟩
  | 108 => ⟨S256x8x8x11x11x1, .f32⟩
  | 109 => ⟨S256x8x8x11x11x1, .f32⟩
  | 110 => ⟨S256x8x8x11x11x2, .f32⟩
  | 111 => ⟨S256x8x8x2x1, .f32⟩
  | 112 => ⟨S256x8x8x1x2, .f32⟩
  | 113 => ⟨S256x64x2, .f32⟩
  | 114 => ⟨S256x8x8x2x1, .f32⟩
  | 115 => ⟨S256x8x8x1x2, .f32⟩
  | 116 => ⟨S256x64x2, .f32⟩
  | 117 => ⟨S256x8x8x2x1, .f32⟩
  | 118 => ⟨S256x8x8x1x2, .f32⟩
  | 119 => ⟨S256x64x2, .f32⟩
  | 120 => ⟨S256x8x8x2x1, .f32⟩
  | 121 => ⟨S256x8x8x1x2, .f32⟩
  | 122 => ⟨S256x64x2, .f32⟩
  | 123 => ⟨S256x8x8x2x1, .f32⟩
  | 124 => ⟨S256x8x8x1x2, .f32⟩
  | 125 => ⟨S256x64x2, .f32⟩
  | 126 => ⟨S256x8x8x2x1, .f32⟩
  | 127 => ⟨S256x8x8x1x2, .f32⟩
  | _ => ⟨S256x288x2, .f32⟩

abbrev hbmTy0_5 (i : Nat) : BufTy := match i % 128 with
  | 0 => ⟨S256x64x2, .f32⟩
  | 1 => ⟨S256x8x8x2x3, .f32⟩
  | 2 => ⟨S256x8x8x3x2, .f32⟩
  | 3 => ⟨S256x192x2, .f32⟩
  | 4 => ⟨S256x8x8x2x3, .f32⟩
  | 5 => ⟨S256x8x8x3x2, .f32⟩
  | 6 => ⟨S256x192x2, .f32⟩
  | 7 => ⟨S256x8x8x2x3, .f32⟩
  | 8 => ⟨S256x8x8x3x2, .f32⟩
  | 9 => ⟨S256x192x2, .f32⟩
  | 10 => ⟨S256x8x8x2x3, .f32⟩
  | 11 => ⟨S256x8x8x3x2, .f32⟩
  | 12 => ⟨S256x192x2, .f32⟩
  | 13 => ⟨S256x8x8x2x3, .f32⟩
  | 14 => ⟨S256x8x8x3x2, .f32⟩
  | 15 => ⟨S256x192x2, .f32⟩
  | 16 => ⟨S256x8x8x2x3, .f32⟩
  | 17 => ⟨S256x8x8x3x2, .f32⟩
  | 18 => ⟨S256x192x2, .f32⟩
  | 19 => ⟨S256x8x8x2x3, .f32⟩
  | 20 => ⟨S256x8x8x3x2, .f32⟩
  | 21 => ⟨S256x192x2, .f32⟩
  | 22 => ⟨S256x8x8x2x3, .f32⟩
  | 23 => ⟨S256x8x8x3x2, .f32⟩
  | 24 => ⟨S256x192x2, .f32⟩
  | 25 => ⟨S256x8x8x2x3, .f32⟩
  | 26 => ⟨S256x8x8x3x2, .f32⟩
  | 27 => ⟨S256x192x2, .f32⟩
  | 28 => ⟨S256x8x8x2x3, .f32⟩
  | 29 => ⟨S256x8x8x3x2, .f32⟩
  | 30 => ⟨S256x192x2, .f32⟩
  | 31 => ⟨S256x8x8x2x5, .f32⟩
  | 32 => ⟨S256x8x8x5x2, .f32⟩
  | 33 => ⟨S256x320x2, .f32⟩
  | 34 => ⟨S256x8x8x2x5, .f32⟩
  | 35 => ⟨S256x8x8x5x2, .f32⟩
  | 36 => ⟨S256x320x2, .f32⟩
  | 37 => ⟨S256x8x8x2x5, .f32⟩
  | 38 => ⟨S256x8x8x5x2, .f32⟩
  | 39 => ⟨S256x320x2, .f32⟩
  | 40 => ⟨S256x8x8x2x5, .f32⟩
  | 41 => ⟨S256x8x8x5x2, .f32⟩
  | 42 => ⟨S256x320x2, .f32⟩
  | 43 => ⟨S256x8x8x2x5, .f32⟩
  | 44 => ⟨S256x8x8x5x2, .f32⟩
  | 45 => ⟨S256x320x2, .f32⟩
  | 46 => ⟨S256x8x8x2x5, .f32⟩
  | 47 => ⟨S256x8x8x5x2, .f32⟩
  | 48 => ⟨S256x320x2, .f32⟩
  | 49 => ⟨S256x8x8x2x5, .f32⟩
  | 50 => ⟨S256x8x8x5x2, .f32⟩
  | 51 => ⟨S256x320x2, .f32⟩
  | 52 => ⟨S256x8x8x2x5, .f32⟩
  | 53 => ⟨S256x8x8x5x2, .f32⟩
  | 54 => ⟨S256x320x2, .f32⟩
  | 55 => ⟨S256x8x8x2x5, .f32⟩
  | 56 => ⟨S256x8x8x5x2, .f32⟩
  | 57 => ⟨S256x320x2, .f32⟩
  | 58 => ⟨S256x8x8x2x5, .f32⟩
  | 59 => ⟨S256x8x8x5x2, .f32⟩
  | 60 => ⟨S256x320x2, .f32⟩
  | 61 => ⟨S256x8x8x2x5, .f32⟩
  | 62 => ⟨S256x8x8x5x2, .f32⟩
  | 63 => ⟨S256x320x2, .f32⟩
  | 64 => ⟨S256x8x8x2x5, .f32⟩
  | 65 => ⟨S256x8x8x5x2, .f32⟩
  | 66 => ⟨S256x320x2, .f32⟩
  | 67 => ⟨S256x8x8x2x5, .f32⟩
  | 68 => ⟨S256x8x8x5x2, .f32⟩
  | 69 => ⟨S256x320x2, .f32⟩
  | 70 => ⟨S256x8x8x2x7, .f32⟩
  | 71 => ⟨S256x8x8x7x2, .f32⟩
  | 72 => ⟨S256x448x2, .f32⟩
  | 73 => ⟨S256x8x8x2x7, .f32⟩
  | 74 => ⟨S256x8x8x7x2, .f32⟩
  | 75 => ⟨S256x448x2, .f32⟩
  | 76 => ⟨S256x8x8x2x7, .f32⟩
  | 77 => ⟨S256x8x8x7x2, .f32⟩
  | 78 => ⟨S256x448x2, .f32⟩
  | 79 => ⟨S256x8x8x2x7, .f32⟩
  | 80 => ⟨S256x8x8x7x2, .f32⟩
  | 81 => ⟨S256x448x2, .f32⟩
  | 82 => ⟨S256x8x8x2x7, .f32⟩
  | 83 => ⟨S256x8x8x7x2, .f32⟩
  | 84 => ⟨S256x448x2, .f32⟩
  | 85 => ⟨S256x8x8x2x7, .f32⟩
  | 86 => ⟨S256x8x8x7x2, .f32⟩
  | 87 => ⟨S256x448x2, .f32⟩
  | 88 => ⟨S256x8x8x2x7, .f32⟩
  | 89 => ⟨S256x8x8x7x2, .f32⟩
  | 90 => ⟨S256x448x2, .f32⟩
  | 91 => ⟨S256x8x8x2x7, .f32⟩
  | 92 => ⟨S256x8x8x7x2, .f32⟩
  | 93 => ⟨S256x448x2, .f32⟩
  | 94 => ⟨S256x8x8x2x7, .f32⟩
  | 95 => ⟨S256x8x8x7x2, .f32⟩
  | 96 => ⟨S256x448x2, .f32⟩
  | 97 => ⟨S256x8x8x2x7, .f32⟩
  | 98 => ⟨S256x8x8x7x2, .f32⟩
  | 99 => ⟨S256x448x2, .f32⟩
  | 100 => ⟨S256x8x8x2x7, .f32⟩
  | 101 => ⟨S256x8x8x7x2, .f32⟩
  | 102 => ⟨S256x448x2, .f32⟩
  | 103 => ⟨S256x8x8x2x7, .f32⟩
  | 104 => ⟨S256x8x8x7x2, .f32⟩
  | 105 => ⟨S256x448x2, .f32⟩
  | 106 => ⟨S256x8x8x2x7, .f32⟩
  | 107 => ⟨S256x8x8x7x2, .f32⟩
  | 108 => ⟨S256x448x2, .f32⟩
  | 109 => ⟨S256x8x8x2x7, .f32⟩
  | 110 => ⟨S256x8x8x7x2, .f32⟩
  | 111 => ⟨S256x448x2, .f32⟩
  | 112 => ⟨S256x8x8x2x9, .f32⟩
  | 113 => ⟨S256x8x8x9x2, .f32⟩
  | 114 => ⟨S256x576x2, .f32⟩
  | 115 => ⟨S256x8x8x2x9, .f32⟩
  | 116 => ⟨S256x8x8x9x2, .f32⟩
  | 117 => ⟨S256x576x2, .f32⟩
  | 118 => ⟨S256x8x8x2x9, .f32⟩
  | 119 => ⟨S256x8x8x9x2, .f32⟩
  | 120 => ⟨S256x576x2, .f32⟩
  | 121 => ⟨S256x8x8x2x9, .f32⟩
  | 122 => ⟨S256x8x8x9x2, .f32⟩
  | 123 => ⟨S256x576x2, .f32⟩
  | 124 => ⟨S256x8x8x2x9, .f32⟩
  | 125 => ⟨S256x8x8x9x2, .f32⟩
  | 126 => ⟨S256x576x2, .f32⟩
  | 127 => ⟨S256x8x8x2x9, .f32⟩
  | _ => ⟨S256x288x2, .f32⟩

abbrev hbmTy0_6 (i : Nat) : BufTy := match i % 128 with
  | 0 => ⟨S256x8x8x9x2, .f32⟩
  | 1 => ⟨S256x576x2, .f32⟩
  | 2 => ⟨S256x8x8x2x9, .f32⟩
  | 3 => ⟨S256x8x8x9x2, .f32⟩
  | 4 => ⟨S256x576x2, .f32⟩
  | 5 => ⟨S256x8x8x2x9, .f32⟩
  | 6 => ⟨S256x8x8x9x2, .f32⟩
  | 7 => ⟨S256x576x2, .f32⟩
  | 8 => ⟨S256x8x8x2x9, .f32⟩
  | 9 => ⟨S256x8x8x9x2, .f32⟩
  | 10 => ⟨S256x576x2, .f32⟩
  | 11 => ⟨S256x8x8x2x9, .f32⟩
  | 12 => ⟨S256x8x8x9x2, .f32⟩
  | 13 => ⟨S256x576x2, .f32⟩
  | 14 => ⟨S256x8x8x2x9, .f32⟩
  | 15 => ⟨S256x8x8x9x2, .f32⟩
  | 16 => ⟨S256x576x2, .f32⟩
  | 17 => ⟨S256x8x8x2x9, .f32⟩
  | 18 => ⟨S256x8x8x9x2, .f32⟩
  | 19 => ⟨S256x576x2, .f32⟩
  | 20 => ⟨S256x8x8x2x9, .f32⟩
  | 21 => ⟨S256x8x8x9x2, .f32⟩
  | 22 => ⟨S256x576x2, .f32⟩
  | 23 => ⟨S256x8x8x2x9, .f32⟩
  | 24 => ⟨S256x8x8x9x2, .f32⟩
  | 25 => ⟨S256x576x2, .f32⟩
  | 26 => ⟨S256x8x8x2x11, .f32⟩
  | 27 => ⟨S256x8x8x11x2, .f32⟩
  | 28 => ⟨S256x704x2, .f32⟩
  | 29 => ⟨S256x8x8x2x11, .f32⟩
  | 30 => ⟨S256x8x8x11x2, .f32⟩
  | 31 => ⟨S256x704x2, .f32⟩
  | 32 => ⟨S256x8x8x2x11, .f32⟩
  | 33 => ⟨S256x8x8x11x2, .f32⟩
  | 34 => ⟨S256x704x2, .f32⟩
  | 35 => ⟨S256x8x8x2x11, .f32⟩
  | 36 => ⟨S256x8x8x11x2, .f32⟩
  | 37 => ⟨S256x704x2, .f32⟩
  | 38 => ⟨S256x8x8x2x11, .f32⟩
  | 39 => ⟨S256x8x8x11x2, .f32⟩
  | 40 => ⟨S256x704x2, .f32⟩
  | 41 => ⟨S256x8x8x2x11, .f32⟩
  | 42 => ⟨S256x8x8x11x2, .f32⟩
  | 43 => ⟨S256x704x2, .f32⟩
  | 44 => ⟨S256x8x8x2x11, .f32⟩
  | 45 => ⟨S256x8x8x11x2, .f32⟩
  | 46 => ⟨S256x704x2, .f32⟩
  | 47 => ⟨S256x8x8x2x11, .f32⟩
  | 48 => ⟨S256x8x8x11x2, .f32⟩
  | 49 => ⟨S256x704x2, .f32⟩
  | 50 => ⟨S256x8x8x2x11, .f32⟩
  | 51 => ⟨S256x8x8x11x2, .f32⟩
  | 52 => ⟨S256x704x2, .f32⟩
  | 53 => ⟨S256x8x8x2x11, .f32⟩
  | 54 => ⟨S256x8x8x11x2, .f32⟩
  | 55 => ⟨S256x704x2, .f32⟩
  | 56 => ⟨S256x8x8x2x11, .f32⟩
  | 57 => ⟨S256x8x8x11x2, .f32⟩
  | 58 => ⟨S256x704x2, .f32⟩
  | 59 => ⟨S256x8x8x2x11, .f32⟩
  | 60 => ⟨S256x8x8x11x2, .f32⟩
  | 61 => ⟨S256x704x2, .f32⟩
  | 62 => ⟨S256x2304x2, .f32⟩
  | 63 => ⟨S256x5504x2, .f32⟩
  | 64 => ⟨S256x7808x2, .f32⟩
  | 65 => ⟨S256x10112x2, .f32⟩
  | 66 => ⟨S256x3520x2, .f32⟩
  | 67 => ⟨S256x29248x2, .f32⟩
  | _ => ⟨S256x288x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S256x288x2, .f32⟩

abbrev bufTy : (tb : Table) → Fin (tcTables nBuf tb) → BufTy
  | .hbm, ⟨i, _⟩ => hbmTy i
  | _, _ => ⟨S256x288x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_cst_2 : Ref sig .tc := ⟨.hbm, 4, rfl⟩
abbrev main_cst_3 : Ref sig .tc := ⟨.hbm, 5, rfl⟩
abbrev main_cst_4 : Ref sig .tc := ⟨.hbm, 6, rfl⟩
abbrev main_cst_5 : Ref sig .tc := ⟨.hbm, 7, rfl⟩
abbrev main_cst_6 : Ref sig .tc := ⟨.hbm, 8, rfl⟩
abbrev main_cst_7 : Ref sig .tc := ⟨.hbm, 9, rfl⟩
abbrev main_cst_8 : Ref sig .tc := ⟨.hbm, 10, rfl⟩
abbrev main_cst_9 : Ref sig .tc := ⟨.hbm, 11, rfl⟩
abbrev main_cst_10 : Ref sig .tc := ⟨.hbm, 12, rfl⟩
abbrev main_cst_11 : Ref sig .tc := ⟨.hbm, 13, rfl⟩
abbrev main_cst_12 : Ref sig .tc := ⟨.hbm, 14, rfl⟩
abbrev main_cst_13 : Ref sig .tc := ⟨.hbm, 15, rfl⟩
abbrev main_cst_14 : Ref sig .tc := ⟨.hbm, 16, rfl⟩
abbrev main_cst_15 : Ref sig .tc := ⟨.hbm, 17, rfl⟩
abbrev main_cst_16 : Ref sig .tc := ⟨.hbm, 18, rfl⟩
abbrev main_cst_17 : Ref sig .tc := ⟨.hbm, 19, rfl⟩
abbrev main_cst_18 : Ref sig .tc := ⟨.hbm, 20, rfl⟩
abbrev main_cst_19 : Ref sig .tc := ⟨.hbm, 21, rfl⟩
abbrev main_cst_20 : Ref sig .tc := ⟨.hbm, 22, rfl⟩
abbrev main_cst_21 : Ref sig .tc := ⟨.hbm, 23, rfl⟩
abbrev main_cst_22 : Ref sig .tc := ⟨.hbm, 24, rfl⟩
abbrev main_cst_23 : Ref sig .tc := ⟨.hbm, 25, rfl⟩
abbrev main_cst_24 : Ref sig .tc := ⟨.hbm, 26, rfl⟩
abbrev main_cst_25 : Ref sig .tc := ⟨.hbm, 27, rfl⟩
abbrev main_cst_26 : Ref sig .tc := ⟨.hbm, 28, rfl⟩
abbrev main_cst_27 : Ref sig .tc := ⟨.hbm, 29, rfl⟩
abbrev main_cst_28 : Ref sig .tc := ⟨.hbm, 30, rfl⟩
abbrev main_cst_29 : Ref sig .tc := ⟨.hbm, 31, rfl⟩
abbrev main_cst_30 : Ref sig .tc := ⟨.hbm, 32, rfl⟩
abbrev main_cst_31 : Ref sig .tc := ⟨.hbm, 33, rfl⟩
abbrev main_cst_32 : Ref sig .tc := ⟨.hbm, 34, rfl⟩
abbrev main_cst_33 : Ref sig .tc := ⟨.hbm, 35, rfl⟩
abbrev main_cst_34 : Ref sig .tc := ⟨.hbm, 36, rfl⟩
abbrev main_cst_35 : Ref sig .tc := ⟨.hbm, 37, rfl⟩
abbrev main_cst_36 : Ref sig .tc := ⟨.hbm, 38, rfl⟩
abbrev main_cst_37 : Ref sig .tc := ⟨.hbm, 39, rfl⟩
abbrev main_cst_38 : Ref sig .tc := ⟨.hbm, 40, rfl⟩
abbrev main_cst_39 : Ref sig .tc := ⟨.hbm, 41, rfl⟩
abbrev main_cst_40 : Ref sig .tc := ⟨.hbm, 42, rfl⟩
abbrev main_cst_41 : Ref sig .tc := ⟨.hbm, 43, rfl⟩
abbrev main_cst_42 : Ref sig .tc := ⟨.hbm, 44, rfl⟩
abbrev main_cst_43 : Ref sig .tc := ⟨.hbm, 45, rfl⟩
abbrev main_cst_44 : Ref sig .tc := ⟨.hbm, 46, rfl⟩
abbrev main_cst_45 : Ref sig .tc := ⟨.hbm, 47, rfl⟩
abbrev main_cst_46 : Ref sig .tc := ⟨.hbm, 48, rfl⟩
abbrev main_cst_47 : Ref sig .tc := ⟨.hbm, 49, rfl⟩
abbrev main_cst_48 : Ref sig .tc := ⟨.hbm, 50, rfl⟩
abbrev main_cst_49 : Ref sig .tc := ⟨.hbm, 51, rfl⟩
abbrev main_cst_50 : Ref sig .tc := ⟨.hbm, 52, rfl⟩
abbrev main_cst_51 : Ref sig .tc := ⟨.hbm, 53, rfl⟩
abbrev main_cst_52 : Ref sig .tc := ⟨.hbm, 54, rfl⟩
abbrev main_cst_53 : Ref sig .tc := ⟨.hbm, 55, rfl⟩
abbrev main_cst_54 : Ref sig .tc := ⟨.hbm, 56, rfl⟩
abbrev main_cst_55 : Ref sig .tc := ⟨.hbm, 57, rfl⟩
abbrev main_cst_56 : Ref sig .tc := ⟨.hbm, 58, rfl⟩
abbrev main_cst_57 : Ref sig .tc := ⟨.hbm, 59, rfl⟩
abbrev main_cst_58 : Ref sig .tc := ⟨.hbm, 60, rfl⟩
abbrev main_cst_59 : Ref sig .tc := ⟨.hbm, 61, rfl⟩
abbrev main_cst_60 : Ref sig .tc := ⟨.hbm, 62, rfl⟩
abbrev main_cst_61 : Ref sig .tc := ⟨.hbm, 63, rfl⟩
abbrev main_cst_62 : Ref sig .tc := ⟨.hbm, 64, rfl⟩
abbrev main_cst_63 : Ref sig .tc := ⟨.hbm, 65, rfl⟩
abbrev main_cst_64 : Ref sig .tc := ⟨.hbm, 66, rfl⟩
abbrev main_cst_65 : Ref sig .tc := ⟨.hbm, 67, rfl⟩
abbrev main_cst_66 : Ref sig .tc := ⟨.hbm, 68, rfl⟩
abbrev main_cst_67 : Ref sig .tc := ⟨.hbm, 69, rfl⟩
abbrev main_v0 : Ref sig .tc := ⟨.hbm, 70, rfl⟩
abbrev main_v1 : Ref sig .tc := ⟨.hbm, 71, rfl⟩
abbrev main_v2 : Ref sig .tc := ⟨.hbm, 72, rfl⟩
abbrev main_v3 : Ref sig .tc := ⟨.hbm, 73, rfl⟩
abbrev main_v4 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩
abbrev main_v8 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_v278 : Ref sig .tc := ⟨.hbm, 348, rfl⟩
abbrev main_v279 : Ref sig .tc := ⟨.hbm, 349, rfl⟩
abbrev main_v280 : Ref sig .tc := ⟨.hbm, 350, rfl⟩
abbrev main_v281 : Ref sig .tc := ⟨.hbm, 351, rfl⟩
abbrev main_v282 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_v292 : Ref sig .tc := ⟨.hbm, 362, rfl⟩
abbrev main_v293 : Ref sig .tc := ⟨.hbm, 363, rfl⟩
abbrev main_v294 : Ref sig .tc := ⟨.hbm, 364, rfl⟩
abbrev main_v295 : Ref sig .tc := ⟨.hbm, 365, rfl⟩
abbrev main_v296 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_v312 : Ref sig .tc := ⟨.hbm, 382, rfl⟩
abbrev main_v313 : Ref sig .tc := ⟨.hbm, 383, rfl⟩
abbrev main_v314 : Ref sig .tc := ⟨.hbm, 384, rfl⟩
abbrev main_v315 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_v319 : Ref sig .tc := ⟨.hbm, 389, rfl⟩
abbrev main_v320 : Ref sig .tc := ⟨.hbm, 390, rfl⟩
abbrev main_v321 : Ref sig .tc := ⟨.hbm, 391, rfl⟩
abbrev main_v322 : Ref sig .tc := ⟨.hbm, 392, rfl⟩
abbrev main_v323 : Ref sig .tc := ⟨.hbm, 393, rfl⟩
abbrev main_v324 : Ref sig .tc := ⟨.hbm, 394, rfl⟩
abbrev main_v325 : Ref sig .tc := ⟨.hbm, 395, rfl⟩
abbrev main_v326 : Ref sig .tc := ⟨.hbm, 396, rfl⟩
abbrev main_v327 : Ref sig .tc := ⟨.hbm, 397, rfl⟩
abbrev main_v328 : Ref sig .tc := ⟨.hbm, 398, rfl⟩
abbrev main_v329 : Ref sig .tc := ⟨.hbm, 399, rfl⟩
abbrev main_v330 : Ref sig .tc := ⟨.hbm, 400, rfl⟩
abbrev main_v331 : Ref sig .tc := ⟨.hbm, 401, rfl⟩
abbrev main_v332 : Ref sig .tc := ⟨.hbm, 402, rfl⟩
abbrev main_v333 : Ref sig .tc := ⟨.hbm, 403, rfl⟩
abbrev main_v334 : Ref sig .tc := ⟨.hbm, 404, rfl⟩
abbrev main_v335 : Ref sig .tc := ⟨.hbm, 405, rfl⟩
abbrev main_v336 : Ref sig .tc := ⟨.hbm, 406, rfl⟩
abbrev main_v337 : Ref sig .tc := ⟨.hbm, 407, rfl⟩
abbrev main_v338 : Ref sig .tc := ⟨.hbm, 408, rfl⟩
abbrev main_v339 : Ref sig .tc := ⟨.hbm, 409, rfl⟩
abbrev main_v340 : Ref sig .tc := ⟨.hbm, 410, rfl⟩
abbrev main_v341 : Ref sig .tc := ⟨.hbm, 411, rfl⟩
abbrev main_v342 : Ref sig .tc := ⟨.hbm, 412, rfl⟩
abbrev main_v343 : Ref sig .tc := ⟨.hbm, 413, rfl⟩
abbrev main_v344 : Ref sig .tc := ⟨.hbm, 414, rfl⟩
abbrev main_v345 : Ref sig .tc := ⟨.hbm, 415, rfl⟩
abbrev main_v346 : Ref sig .tc := ⟨.hbm, 416, rfl⟩
abbrev main_v347 : Ref sig .tc := ⟨.hbm, 417, rfl⟩
abbrev main_v348 : Ref sig .tc := ⟨.hbm, 418, rfl⟩
abbrev main_v349 : Ref sig .tc := ⟨.hbm, 419, rfl⟩
abbrev main_v350 : Ref sig .tc := ⟨.hbm, 420, rfl⟩
abbrev main_v351 : Ref sig .tc := ⟨.hbm, 421, rfl⟩
abbrev main_v352 : Ref sig .tc := ⟨.hbm, 422, rfl⟩
abbrev main_v353 : Ref sig .tc := ⟨.hbm, 423, rfl⟩
abbrev main_v354 : Ref sig .tc := ⟨.hbm, 424, rfl⟩
abbrev main_v355 : Ref sig .tc := ⟨.hbm, 425, rfl⟩
abbrev main_v356 : Ref sig .tc := ⟨.hbm, 426, rfl⟩
abbrev main_v357 : Ref sig .tc := ⟨.hbm, 427, rfl⟩
abbrev main_v358 : Ref sig .tc := ⟨.hbm, 428, rfl⟩
abbrev main_v359 : Ref sig .tc := ⟨.hbm, 429, rfl⟩
abbrev main_v360 : Ref sig .tc := ⟨.hbm, 430, rfl⟩
abbrev main_v361 : Ref sig .tc := ⟨.hbm, 431, rfl⟩
abbrev main_v362 : Ref sig .tc := ⟨.hbm, 432, rfl⟩
abbrev main_v363 : Ref sig .tc := ⟨.hbm, 433, rfl⟩
abbrev main_v364 : Ref sig .tc := ⟨.hbm, 434, rfl⟩
abbrev main_v365 : Ref sig .tc := ⟨.hbm, 435, rfl⟩
abbrev main_v366 : Ref sig .tc := ⟨.hbm, 436, rfl⟩
abbrev main_v367 : Ref sig .tc := ⟨.hbm, 437, rfl⟩
abbrev main_v368 : Ref sig .tc := ⟨.hbm, 438, rfl⟩
abbrev main_v369 : Ref sig .tc := ⟨.hbm, 439, rfl⟩
abbrev main_v370 : Ref sig .tc := ⟨.hbm, 440, rfl⟩
abbrev main_v371 : Ref sig .tc := ⟨.hbm, 441, rfl⟩
abbrev main_v372 : Ref sig .tc := ⟨.hbm, 442, rfl⟩
abbrev main_v373 : Ref sig .tc := ⟨.hbm, 443, rfl⟩
abbrev main_v374 : Ref sig .tc := ⟨.hbm, 444, rfl⟩
abbrev main_v375 : Ref sig .tc := ⟨.hbm, 445, rfl⟩
abbrev main_v376 : Ref sig .tc := ⟨.hbm, 446, rfl⟩
abbrev main_v377 : Ref sig .tc := ⟨.hbm, 447, rfl⟩
abbrev main_v378 : Ref sig .tc := ⟨.hbm, 448, rfl⟩
abbrev main_v379 : Ref sig .tc := ⟨.hbm, 449, rfl⟩
abbrev main_v380 : Ref sig .tc := ⟨.hbm, 450, rfl⟩
abbrev main_v381 : Ref sig .tc := ⟨.hbm, 451, rfl⟩
abbrev main_v382 : Ref sig .tc := ⟨.hbm, 452, rfl⟩
abbrev main_v383 : Ref sig .tc := ⟨.hbm, 453, rfl⟩
abbrev main_v384 : Ref sig .tc := ⟨.hbm, 454, rfl⟩
abbrev main_v385 : Ref sig .tc := ⟨.hbm, 455, rfl⟩
abbrev main_v386 : Ref sig .tc := ⟨.hbm, 456, rfl⟩
abbrev main_v387 : Ref sig .tc := ⟨.hbm, 457, rfl⟩
abbrev main_v388 : Ref sig .tc := ⟨.hbm, 458, rfl⟩
abbrev main_v389 : Ref sig .tc := ⟨.hbm, 459, rfl⟩
abbrev main_v390 : Ref sig .tc := ⟨.hbm, 460, rfl⟩
abbrev main_v391 : Ref sig .tc := ⟨.hbm, 461, rfl⟩
abbrev main_v392 : Ref sig .tc := ⟨.hbm, 462, rfl⟩
abbrev main_v393 : Ref sig .tc := ⟨.hbm, 463, rfl⟩
abbrev main_v394 : Ref sig .tc := ⟨.hbm, 464, rfl⟩
abbrev main_v395 : Ref sig .tc := ⟨.hbm, 465, rfl⟩
abbrev main_v396 : Ref sig .tc := ⟨.hbm, 466, rfl⟩
abbrev main_v397 : Ref sig .tc := ⟨.hbm, 467, rfl⟩
abbrev main_v398 : Ref sig .tc := ⟨.hbm, 468, rfl⟩
abbrev main_v399 : Ref sig .tc := ⟨.hbm, 469, rfl⟩
abbrev main_v400 : Ref sig .tc := ⟨.hbm, 470, rfl⟩
abbrev main_v401 : Ref sig .tc := ⟨.hbm, 471, rfl⟩
abbrev main_v402 : Ref sig .tc := ⟨.hbm, 472, rfl⟩
abbrev main_v403 : Ref sig .tc := ⟨.hbm, 473, rfl⟩
abbrev main_v404 : Ref sig .tc := ⟨.hbm, 474, rfl⟩
abbrev main_v405 : Ref sig .tc := ⟨.hbm, 475, rfl⟩
abbrev main_v406 : Ref sig .tc := ⟨.hbm, 476, rfl⟩
abbrev main_v407 : Ref sig .tc := ⟨.hbm, 477, rfl⟩
abbrev main_v408 : Ref sig .tc := ⟨.hbm, 478, rfl⟩
abbrev main_v409 : Ref sig .tc := ⟨.hbm, 479, rfl⟩
abbrev main_v410 : Ref sig .tc := ⟨.hbm, 480, rfl⟩
abbrev main_v411 : Ref sig .tc := ⟨.hbm, 481, rfl⟩
abbrev main_v412 : Ref sig .tc := ⟨.hbm, 482, rfl⟩
abbrev main_v413 : Ref sig .tc := ⟨.hbm, 483, rfl⟩
abbrev main_v414 : Ref sig .tc := ⟨.hbm, 484, rfl⟩
abbrev main_v415 : Ref sig .tc := ⟨.hbm, 485, rfl⟩
abbrev main_v416 : Ref sig .tc := ⟨.hbm, 486, rfl⟩
abbrev main_v417 : Ref sig .tc := ⟨.hbm, 487, rfl⟩
abbrev main_v418 : Ref sig .tc := ⟨.hbm, 488, rfl⟩
abbrev main_v419 : Ref sig .tc := ⟨.hbm, 489, rfl⟩
abbrev main_v420 : Ref sig .tc := ⟨.hbm, 490, rfl⟩
abbrev main_v421 : Ref sig .tc := ⟨.hbm, 491, rfl⟩
abbrev main_v422 : Ref sig .tc := ⟨.hbm, 492, rfl⟩
abbrev main_v423 : Ref sig .tc := ⟨.hbm, 493, rfl⟩
abbrev main_v424 : Ref sig .tc := ⟨.hbm, 494, rfl⟩
abbrev main_v425 : Ref sig .tc := ⟨.hbm, 495, rfl⟩
abbrev main_v426 : Ref sig .tc := ⟨.hbm, 496, rfl⟩
abbrev main_v427 : Ref sig .tc := ⟨.hbm, 497, rfl⟩
abbrev main_v428 : Ref sig .tc := ⟨.hbm, 498, rfl⟩
abbrev main_v429 : Ref sig .tc := ⟨.hbm, 499, rfl⟩
abbrev main_v430 : Ref sig .tc := ⟨.hbm, 500, rfl⟩
abbrev main_v431 : Ref sig .tc := ⟨.hbm, 501, rfl⟩
abbrev main_v432 : Ref sig .tc := ⟨.hbm, 502, rfl⟩
abbrev main_v433 : Ref sig .tc := ⟨.hbm, 503, rfl⟩
abbrev main_v434 : Ref sig .tc := ⟨.hbm, 504, rfl⟩
abbrev main_v435 : Ref sig .tc := ⟨.hbm, 505, rfl⟩
abbrev main_v436 : Ref sig .tc := ⟨.hbm, 506, rfl⟩
abbrev main_v437 : Ref sig .tc := ⟨.hbm, 507, rfl⟩
abbrev main_v438 : Ref sig .tc := ⟨.hbm, 508, rfl⟩
abbrev main_v439 : Ref sig .tc := ⟨.hbm, 509, rfl⟩
abbrev main_v440 : Ref sig .tc := ⟨.hbm, 510, rfl⟩
abbrev main_v441 : Ref sig .tc := ⟨.hbm, 511, rfl⟩
abbrev main_v442 : Ref sig .tc := ⟨.hbm, 512, rfl⟩
abbrev main_v443 : Ref sig .tc := ⟨.hbm, 513, rfl⟩
abbrev main_v444 : Ref sig .tc := ⟨.hbm, 514, rfl⟩
abbrev main_v445 : Ref sig .tc := ⟨.hbm, 515, rfl⟩
abbrev main_v446 : Ref sig .tc := ⟨.hbm, 516, rfl⟩
abbrev main_v447 : Ref sig .tc := ⟨.hbm, 517, rfl⟩
abbrev main_v448 : Ref sig .tc := ⟨.hbm, 518, rfl⟩
abbrev main_v449 : Ref sig .tc := ⟨.hbm, 519, rfl⟩
abbrev main_v450 : Ref sig .tc := ⟨.hbm, 520, rfl⟩
abbrev main_v451 : Ref sig .tc := ⟨.hbm, 521, rfl⟩
abbrev main_v452 : Ref sig .tc := ⟨.hbm, 522, rfl⟩
abbrev main_v453 : Ref sig .tc := ⟨.hbm, 523, rfl⟩
abbrev main_v454 : Ref sig .tc := ⟨.hbm, 524, rfl⟩
abbrev main_v455 : Ref sig .tc := ⟨.hbm, 525, rfl⟩
abbrev main_v456 : Ref sig .tc := ⟨.hbm, 526, rfl⟩
abbrev main_v457 : Ref sig .tc := ⟨.hbm, 527, rfl⟩
abbrev main_v458 : Ref sig .tc := ⟨.hbm, 528, rfl⟩
abbrev main_v459 : Ref sig .tc := ⟨.hbm, 529, rfl⟩
abbrev main_v460 : Ref sig .tc := ⟨.hbm, 530, rfl⟩
abbrev main_v461 : Ref sig .tc := ⟨.hbm, 531, rfl⟩
abbrev main_v462 : Ref sig .tc := ⟨.hbm, 532, rfl⟩
abbrev main_v463 : Ref sig .tc := ⟨.hbm, 533, rfl⟩
abbrev main_v464 : Ref sig .tc := ⟨.hbm, 534, rfl⟩
abbrev main_v465 : Ref sig .tc := ⟨.hbm, 535, rfl⟩
abbrev main_v466 : Ref sig .tc := ⟨.hbm, 536, rfl⟩
abbrev main_v467 : Ref sig .tc := ⟨.hbm, 537, rfl⟩
abbrev main_v468 : Ref sig .tc := ⟨.hbm, 538, rfl⟩
abbrev main_v469 : Ref sig .tc := ⟨.hbm, 539, rfl⟩
abbrev main_v470 : Ref sig .tc := ⟨.hbm, 540, rfl⟩
abbrev main_v471 : Ref sig .tc := ⟨.hbm, 541, rfl⟩
abbrev main_v472 : Ref sig .tc := ⟨.hbm, 542, rfl⟩
abbrev main_v473 : Ref sig .tc := ⟨.hbm, 543, rfl⟩
abbrev main_v474 : Ref sig .tc := ⟨.hbm, 544, rfl⟩
abbrev main_v475 : Ref sig .tc := ⟨.hbm, 545, rfl⟩
abbrev main_v476 : Ref sig .tc := ⟨.hbm, 546, rfl⟩
abbrev main_v477 : Ref sig .tc := ⟨.hbm, 547, rfl⟩
abbrev main_v478 : Ref sig .tc := ⟨.hbm, 548, rfl⟩
abbrev main_v479 : Ref sig .tc := ⟨.hbm, 549, rfl⟩
abbrev main_v480 : Ref sig .tc := ⟨.hbm, 550, rfl⟩
abbrev main_v481 : Ref sig .tc := ⟨.hbm, 551, rfl⟩
abbrev main_v482 : Ref sig .tc := ⟨.hbm, 552, rfl⟩
abbrev main_v483 : Ref sig .tc := ⟨.hbm, 553, rfl⟩
abbrev main_v484 : Ref sig .tc := ⟨.hbm, 554, rfl⟩
abbrev main_v485 : Ref sig .tc := ⟨.hbm, 555, rfl⟩
abbrev main_v486 : Ref sig .tc := ⟨.hbm, 556, rfl⟩
abbrev main_v487 : Ref sig .tc := ⟨.hbm, 557, rfl⟩
abbrev main_v488 : Ref sig .tc := ⟨.hbm, 558, rfl⟩
abbrev main_v489 : Ref sig .tc := ⟨.hbm, 559, rfl⟩
abbrev main_v490 : Ref sig .tc := ⟨.hbm, 560, rfl⟩
abbrev main_v491 : Ref sig .tc := ⟨.hbm, 561, rfl⟩
abbrev main_v492 : Ref sig .tc := ⟨.hbm, 562, rfl⟩
abbrev main_v493 : Ref sig .tc := ⟨.hbm, 563, rfl⟩
abbrev main_v494 : Ref sig .tc := ⟨.hbm, 564, rfl⟩
abbrev main_v495 : Ref sig .tc := ⟨.hbm, 565, rfl⟩
abbrev main_v496 : Ref sig .tc := ⟨.hbm, 566, rfl⟩
abbrev main_v497 : Ref sig .tc := ⟨.hbm, 567, rfl⟩
abbrev main_v498 : Ref sig .tc := ⟨.hbm, 568, rfl⟩
abbrev main_v499 : Ref sig .tc := ⟨.hbm, 569, rfl⟩
abbrev main_v500 : Ref sig .tc := ⟨.hbm, 570, rfl⟩
abbrev main_v501 : Ref sig .tc := ⟨.hbm, 571, rfl⟩
abbrev main_v502 : Ref sig .tc := ⟨.hbm, 572, rfl⟩
abbrev main_v503 : Ref sig .tc := ⟨.hbm, 573, rfl⟩
abbrev main_v504 : Ref sig .tc := ⟨.hbm, 574, rfl⟩
abbrev main_v505 : Ref sig .tc := ⟨.hbm, 575, rfl⟩
abbrev main_v506 : Ref sig .tc := ⟨.hbm, 576, rfl⟩
abbrev main_v507 : Ref sig .tc := ⟨.hbm, 577, rfl⟩
abbrev main_v508 : Ref sig .tc := ⟨.hbm, 578, rfl⟩
abbrev main_v509 : Ref sig .tc := ⟨.hbm, 579, rfl⟩
abbrev main_v510 : Ref sig .tc := ⟨.hbm, 580, rfl⟩
abbrev main_v511 : Ref sig .tc := ⟨.hbm, 581, rfl⟩
abbrev main_v512 : Ref sig .tc := ⟨.hbm, 582, rfl⟩
abbrev main_v513 : Ref sig .tc := ⟨.hbm, 583, rfl⟩
abbrev main_v514 : Ref sig .tc := ⟨.hbm, 584, rfl⟩
abbrev main_v515 : Ref sig .tc := ⟨.hbm, 585, rfl⟩
abbrev main_v516 : Ref sig .tc := ⟨.hbm, 586, rfl⟩
abbrev main_v517 : Ref sig .tc := ⟨.hbm, 587, rfl⟩
abbrev main_v518 : Ref sig .tc := ⟨.hbm, 588, rfl⟩
abbrev main_v519 : Ref sig .tc := ⟨.hbm, 589, rfl⟩
abbrev main_v520 : Ref sig .tc := ⟨.hbm, 590, rfl⟩
abbrev main_v521 : Ref sig .tc := ⟨.hbm, 591, rfl⟩
abbrev main_v522 : Ref sig .tc := ⟨.hbm, 592, rfl⟩
abbrev main_v523 : Ref sig .tc := ⟨.hbm, 593, rfl⟩
abbrev main_v524 : Ref sig .tc := ⟨.hbm, 594, rfl⟩
abbrev main_v525 : Ref sig .tc := ⟨.hbm, 595, rfl⟩
abbrev main_v526 : Ref sig .tc := ⟨.hbm, 596, rfl⟩
abbrev main_v527 : Ref sig .tc := ⟨.hbm, 597, rfl⟩
abbrev main_v528 : Ref sig .tc := ⟨.hbm, 598, rfl⟩
abbrev main_v529 : Ref sig .tc := ⟨.hbm, 599, rfl⟩
abbrev main_v530 : Ref sig .tc := ⟨.hbm, 600, rfl⟩
abbrev main_v531 : Ref sig .tc := ⟨.hbm, 601, rfl⟩
abbrev main_v532 : Ref sig .tc := ⟨.hbm, 602, rfl⟩
abbrev main_v533 : Ref sig .tc := ⟨.hbm, 603, rfl⟩
abbrev main_v534 : Ref sig .tc := ⟨.hbm, 604, rfl⟩
abbrev main_v535 : Ref sig .tc := ⟨.hbm, 605, rfl⟩
abbrev main_v536 : Ref sig .tc := ⟨.hbm, 606, rfl⟩
abbrev main_v537 : Ref sig .tc := ⟨.hbm, 607, rfl⟩
abbrev main_v538 : Ref sig .tc := ⟨.hbm, 608, rfl⟩
abbrev main_v539 : Ref sig .tc := ⟨.hbm, 609, rfl⟩
abbrev main_v540 : Ref sig .tc := ⟨.hbm, 610, rfl⟩
abbrev main_v541 : Ref sig .tc := ⟨.hbm, 611, rfl⟩
abbrev main_v542 : Ref sig .tc := ⟨.hbm, 612, rfl⟩
abbrev main_v543 : Ref sig .tc := ⟨.hbm, 613, rfl⟩
abbrev main_v544 : Ref sig .tc := ⟨.hbm, 614, rfl⟩
abbrev main_v545 : Ref sig .tc := ⟨.hbm, 615, rfl⟩
abbrev main_v546 : Ref sig .tc := ⟨.hbm, 616, rfl⟩
abbrev main_v547 : Ref sig .tc := ⟨.hbm, 617, rfl⟩
abbrev main_v548 : Ref sig .tc := ⟨.hbm, 618, rfl⟩
abbrev main_v549 : Ref sig .tc := ⟨.hbm, 619, rfl⟩
abbrev main_v550 : Ref sig .tc := ⟨.hbm, 620, rfl⟩
abbrev main_v551 : Ref sig .tc := ⟨.hbm, 621, rfl⟩
abbrev main_v552 : Ref sig .tc := ⟨.hbm, 622, rfl⟩
abbrev main_v553 : Ref sig .tc := ⟨.hbm, 623, rfl⟩
abbrev main_v554 : Ref sig .tc := ⟨.hbm, 624, rfl⟩
abbrev main_v555 : Ref sig .tc := ⟨.hbm, 625, rfl⟩
abbrev main_v556 : Ref sig .tc := ⟨.hbm, 626, rfl⟩
abbrev main_v557 : Ref sig .tc := ⟨.hbm, 627, rfl⟩
abbrev main_v558 : Ref sig .tc := ⟨.hbm, 628, rfl⟩
abbrev main_v559 : Ref sig .tc := ⟨.hbm, 629, rfl⟩
abbrev main_v560 : Ref sig .tc := ⟨.hbm, 630, rfl⟩
abbrev main_v561 : Ref sig .tc := ⟨.hbm, 631, rfl⟩
abbrev main_v562 : Ref sig .tc := ⟨.hbm, 632, rfl⟩
abbrev main_v563 : Ref sig .tc := ⟨.hbm, 633, rfl⟩
abbrev main_v564 : Ref sig .tc := ⟨.hbm, 634, rfl⟩
abbrev main_v565 : Ref sig .tc := ⟨.hbm, 635, rfl⟩
abbrev main_v566 : Ref sig .tc := ⟨.hbm, 636, rfl⟩
abbrev main_v567 : Ref sig .tc := ⟨.hbm, 637, rfl⟩
abbrev main_v568 : Ref sig .tc := ⟨.hbm, 638, rfl⟩
abbrev main_v569 : Ref sig .tc := ⟨.hbm, 639, rfl⟩
abbrev main_v570 : Ref sig .tc := ⟨.hbm, 640, rfl⟩
abbrev main_v571 : Ref sig .tc := ⟨.hbm, 641, rfl⟩
abbrev main_v572 : Ref sig .tc := ⟨.hbm, 642, rfl⟩
abbrev main_v573 : Ref sig .tc := ⟨.hbm, 643, rfl⟩
abbrev main_v574 : Ref sig .tc := ⟨.hbm, 644, rfl⟩
abbrev main_v575 : Ref sig .tc := ⟨.hbm, 645, rfl⟩
abbrev main_v576 : Ref sig .tc := ⟨.hbm, 646, rfl⟩
abbrev main_v577 : Ref sig .tc := ⟨.hbm, 647, rfl⟩
abbrev main_v578 : Ref sig .tc := ⟨.hbm, 648, rfl⟩
abbrev main_v579 : Ref sig .tc := ⟨.hbm, 649, rfl⟩
abbrev main_v580 : Ref sig .tc := ⟨.hbm, 650, rfl⟩
abbrev main_v581 : Ref sig .tc := ⟨.hbm, 651, rfl⟩
abbrev main_v582 : Ref sig .tc := ⟨.hbm, 652, rfl⟩
abbrev main_v583 : Ref sig .tc := ⟨.hbm, 653, rfl⟩
abbrev main_v584 : Ref sig .tc := ⟨.hbm, 654, rfl⟩
abbrev main_v585 : Ref sig .tc := ⟨.hbm, 655, rfl⟩
abbrev main_v586 : Ref sig .tc := ⟨.hbm, 656, rfl⟩
abbrev main_v587 : Ref sig .tc := ⟨.hbm, 657, rfl⟩
abbrev main_v588 : Ref sig .tc := ⟨.hbm, 658, rfl⟩
abbrev main_v589 : Ref sig .tc := ⟨.hbm, 659, rfl⟩
abbrev main_v590 : Ref sig .tc := ⟨.hbm, 660, rfl⟩
abbrev main_v591 : Ref sig .tc := ⟨.hbm, 661, rfl⟩
abbrev main_v592 : Ref sig .tc := ⟨.hbm, 662, rfl⟩
abbrev main_v593 : Ref sig .tc := ⟨.hbm, 663, rfl⟩
abbrev main_v594 : Ref sig .tc := ⟨.hbm, 664, rfl⟩
abbrev main_v595 : Ref sig .tc := ⟨.hbm, 665, rfl⟩
abbrev main_v596 : Ref sig .tc := ⟨.hbm, 666, rfl⟩
abbrev main_v597 : Ref sig .tc := ⟨.hbm, 667, rfl⟩
abbrev main_v598 : Ref sig .tc := ⟨.hbm, 668, rfl⟩
abbrev main_v599 : Ref sig .tc := ⟨.hbm, 669, rfl⟩
abbrev main_v600 : Ref sig .tc := ⟨.hbm, 670, rfl⟩
abbrev main_v601 : Ref sig .tc := ⟨.hbm, 671, rfl⟩
abbrev main_v602 : Ref sig .tc := ⟨.hbm, 672, rfl⟩
abbrev main_v603 : Ref sig .tc := ⟨.hbm, 673, rfl⟩
abbrev main_v604 : Ref sig .tc := ⟨.hbm, 674, rfl⟩
abbrev main_v605 : Ref sig .tc := ⟨.hbm, 675, rfl⟩
abbrev main_v606 : Ref sig .tc := ⟨.hbm, 676, rfl⟩
abbrev main_v607 : Ref sig .tc := ⟨.hbm, 677, rfl⟩
abbrev main_v608 : Ref sig .tc := ⟨.hbm, 678, rfl⟩
abbrev main_v609 : Ref sig .tc := ⟨.hbm, 679, rfl⟩
abbrev main_v610 : Ref sig .tc := ⟨.hbm, 680, rfl⟩
abbrev main_v611 : Ref sig .tc := ⟨.hbm, 681, rfl⟩
abbrev main_v612 : Ref sig .tc := ⟨.hbm, 682, rfl⟩
abbrev main_v613 : Ref sig .tc := ⟨.hbm, 683, rfl⟩
abbrev main_v614 : Ref sig .tc := ⟨.hbm, 684, rfl⟩
abbrev main_v615 : Ref sig .tc := ⟨.hbm, 685, rfl⟩
abbrev main_v616 : Ref sig .tc := ⟨.hbm, 686, rfl⟩
abbrev main_v617 : Ref sig .tc := ⟨.hbm, 687, rfl⟩
abbrev main_v618 : Ref sig .tc := ⟨.hbm, 688, rfl⟩
abbrev main_v619 : Ref sig .tc := ⟨.hbm, 689, rfl⟩
abbrev main_v620 : Ref sig .tc := ⟨.hbm, 690, rfl⟩
abbrev main_v621 : Ref sig .tc := ⟨.hbm, 691, rfl⟩
abbrev main_v622 : Ref sig .tc := ⟨.hbm, 692, rfl⟩
abbrev main_v623 : Ref sig .tc := ⟨.hbm, 693, rfl⟩
abbrev main_v624 : Ref sig .tc := ⟨.hbm, 694, rfl⟩
abbrev main_v625 : Ref sig .tc := ⟨.hbm, 695, rfl⟩
abbrev main_v626 : Ref sig .tc := ⟨.hbm, 696, rfl⟩
abbrev main_v627 : Ref sig .tc := ⟨.hbm, 697, rfl⟩
abbrev main_v628 : Ref sig .tc := ⟨.hbm, 698, rfl⟩
abbrev main_v629 : Ref sig .tc := ⟨.hbm, 699, rfl⟩
abbrev main_v630 : Ref sig .tc := ⟨.hbm, 700, rfl⟩
abbrev main_v631 : Ref sig .tc := ⟨.hbm, 701, rfl⟩
abbrev main_v632 : Ref sig .tc := ⟨.hbm, 702, rfl⟩
abbrev main_v633 : Ref sig .tc := ⟨.hbm, 703, rfl⟩
abbrev main_v634 : Ref sig .tc := ⟨.hbm, 704, rfl⟩
abbrev main_v635 : Ref sig .tc := ⟨.hbm, 705, rfl⟩
abbrev main_v636 : Ref sig .tc := ⟨.hbm, 706, rfl⟩
abbrev main_v637 : Ref sig .tc := ⟨.hbm, 707, rfl⟩
abbrev main_v638 : Ref sig .tc := ⟨.hbm, 708, rfl⟩
abbrev main_v639 : Ref sig .tc := ⟨.hbm, 709, rfl⟩
abbrev main_v640 : Ref sig .tc := ⟨.hbm, 710, rfl⟩
abbrev main_v641 : Ref sig .tc := ⟨.hbm, 711, rfl⟩
abbrev main_v642 : Ref sig .tc := ⟨.hbm, 712, rfl⟩
abbrev main_v643 : Ref sig .tc := ⟨.hbm, 713, rfl⟩
abbrev main_v644 : Ref sig .tc := ⟨.hbm, 714, rfl⟩
abbrev main_v645 : Ref sig .tc := ⟨.hbm, 715, rfl⟩
abbrev main_v646 : Ref sig .tc := ⟨.hbm, 716, rfl⟩
abbrev main_v647 : Ref sig .tc := ⟨.hbm, 717, rfl⟩
abbrev main_v648 : Ref sig .tc := ⟨.hbm, 718, rfl⟩
abbrev main_v649 : Ref sig .tc := ⟨.hbm, 719, rfl⟩
abbrev main_v650 : Ref sig .tc := ⟨.hbm, 720, rfl⟩
abbrev main_v651 : Ref sig .tc := ⟨.hbm, 721, rfl⟩
abbrev main_v652 : Ref sig .tc := ⟨.hbm, 722, rfl⟩
abbrev main_v653 : Ref sig .tc := ⟨.hbm, 723, rfl⟩
abbrev main_v654 : Ref sig .tc := ⟨.hbm, 724, rfl⟩
abbrev main_v655 : Ref sig .tc := ⟨.hbm, 725, rfl⟩
abbrev main_v656 : Ref sig .tc := ⟨.hbm, 726, rfl⟩
abbrev main_v657 : Ref sig .tc := ⟨.hbm, 727, rfl⟩
abbrev main_v658 : Ref sig .tc := ⟨.hbm, 728, rfl⟩
abbrev main_v659 : Ref sig .tc := ⟨.hbm, 729, rfl⟩
abbrev main_v660 : Ref sig .tc := ⟨.hbm, 730, rfl⟩
abbrev main_v661 : Ref sig .tc := ⟨.hbm, 731, rfl⟩
abbrev main_v662 : Ref sig .tc := ⟨.hbm, 732, rfl⟩
abbrev main_v663 : Ref sig .tc := ⟨.hbm, 733, rfl⟩
abbrev main_v664 : Ref sig .tc := ⟨.hbm, 734, rfl⟩
abbrev main_v665 : Ref sig .tc := ⟨.hbm, 735, rfl⟩
abbrev main_v666 : Ref sig .tc := ⟨.hbm, 736, rfl⟩
abbrev main_v667 : Ref sig .tc := ⟨.hbm, 737, rfl⟩
abbrev main_v668 : Ref sig .tc := ⟨.hbm, 738, rfl⟩
abbrev main_v669 : Ref sig .tc := ⟨.hbm, 739, rfl⟩
abbrev main_v670 : Ref sig .tc := ⟨.hbm, 740, rfl⟩
abbrev main_v671 : Ref sig .tc := ⟨.hbm, 741, rfl⟩
abbrev main_v672 : Ref sig .tc := ⟨.hbm, 742, rfl⟩
abbrev main_v673 : Ref sig .tc := ⟨.hbm, 743, rfl⟩
abbrev main_v674 : Ref sig .tc := ⟨.hbm, 744, rfl⟩
abbrev main_v675 : Ref sig .tc := ⟨.hbm, 745, rfl⟩
abbrev main_v676 : Ref sig .tc := ⟨.hbm, 746, rfl⟩
abbrev main_v677 : Ref sig .tc := ⟨.hbm, 747, rfl⟩
abbrev main_v678 : Ref sig .tc := ⟨.hbm, 748, rfl⟩
abbrev main_v679 : Ref sig .tc := ⟨.hbm, 749, rfl⟩
abbrev main_v680 : Ref sig .tc := ⟨.hbm, 750, rfl⟩
abbrev main_v681 : Ref sig .tc := ⟨.hbm, 751, rfl⟩
abbrev main_v682 : Ref sig .tc := ⟨.hbm, 752, rfl⟩
abbrev main_v683 : Ref sig .tc := ⟨.hbm, 753, rfl⟩
abbrev main_v684 : Ref sig .tc := ⟨.hbm, 754, rfl⟩
abbrev main_v685 : Ref sig .tc := ⟨.hbm, 755, rfl⟩
abbrev main_v686 : Ref sig .tc := ⟨.hbm, 756, rfl⟩
abbrev main_v687 : Ref sig .tc := ⟨.hbm, 757, rfl⟩
abbrev main_v688 : Ref sig .tc := ⟨.hbm, 758, rfl⟩
abbrev main_v689 : Ref sig .tc := ⟨.hbm, 759, rfl⟩
abbrev main_v690 : Ref sig .tc := ⟨.hbm, 760, rfl⟩
abbrev main_v691 : Ref sig .tc := ⟨.hbm, 761, rfl⟩
abbrev main_v692 : Ref sig .tc := ⟨.hbm, 762, rfl⟩
abbrev main_v693 : Ref sig .tc := ⟨.hbm, 763, rfl⟩
abbrev main_v694 : Ref sig .tc := ⟨.hbm, 764, rfl⟩
abbrev main_v695 : Ref sig .tc := ⟨.hbm, 765, rfl⟩
abbrev main_v696 : Ref sig .tc := ⟨.hbm, 766, rfl⟩
abbrev main_v697 : Ref sig .tc := ⟨.hbm, 767, rfl⟩
abbrev main_v698 : Ref sig .tc := ⟨.hbm, 768, rfl⟩
abbrev main_v699 : Ref sig .tc := ⟨.hbm, 769, rfl⟩
abbrev main_v700 : Ref sig .tc := ⟨.hbm, 770, rfl⟩
abbrev main_v701 : Ref sig .tc := ⟨.hbm, 771, rfl⟩
abbrev main_v702 : Ref sig .tc := ⟨.hbm, 772, rfl⟩
abbrev main_v703 : Ref sig .tc := ⟨.hbm, 773, rfl⟩
abbrev main_v704 : Ref sig .tc := ⟨.hbm, 774, rfl⟩
abbrev main_v705 : Ref sig .tc := ⟨.hbm, 775, rfl⟩
abbrev main_v706 : Ref sig .tc := ⟨.hbm, 776, rfl⟩
abbrev main_v707 : Ref sig .tc := ⟨.hbm, 777, rfl⟩
abbrev main_v708 : Ref sig .tc := ⟨.hbm, 778, rfl⟩
abbrev main_v709 : Ref sig .tc := ⟨.hbm, 779, rfl⟩
abbrev main_v710 : Ref sig .tc := ⟨.hbm, 780, rfl⟩
abbrev main_v711 : Ref sig .tc := ⟨.hbm, 781, rfl⟩
abbrev main_v712 : Ref sig .tc := ⟨.hbm, 782, rfl⟩
abbrev main_v713 : Ref sig .tc := ⟨.hbm, 783, rfl⟩
abbrev main_v714 : Ref sig .tc := ⟨.hbm, 784, rfl⟩
abbrev main_v715 : Ref sig .tc := ⟨.hbm, 785, rfl⟩
abbrev main_v716 : Ref sig .tc := ⟨.hbm, 786, rfl⟩
abbrev main_v717 : Ref sig .tc := ⟨.hbm, 787, rfl⟩
abbrev main_v718 : Ref sig .tc := ⟨.hbm, 788, rfl⟩
abbrev main_v719 : Ref sig .tc := ⟨.hbm, 789, rfl⟩
abbrev main_v720 : Ref sig .tc := ⟨.hbm, 790, rfl⟩
abbrev main_v721 : Ref sig .tc := ⟨.hbm, 791, rfl⟩
abbrev main_v722 : Ref sig .tc := ⟨.hbm, 792, rfl⟩
abbrev main_v723 : Ref sig .tc := ⟨.hbm, 793, rfl⟩
abbrev main_v724 : Ref sig .tc := ⟨.hbm, 794, rfl⟩
abbrev main_v725 : Ref sig .tc := ⟨.hbm, 795, rfl⟩
abbrev main_v726 : Ref sig .tc := ⟨.hbm, 796, rfl⟩
abbrev main_v727 : Ref sig .tc := ⟨.hbm, 797, rfl⟩
abbrev main_v728 : Ref sig .tc := ⟨.hbm, 798, rfl⟩
abbrev main_v729 : Ref sig .tc := ⟨.hbm, 799, rfl⟩
abbrev main_v730 : Ref sig .tc := ⟨.hbm, 800, rfl⟩
abbrev main_v731 : Ref sig .tc := ⟨.hbm, 801, rfl⟩
abbrev main_v732 : Ref sig .tc := ⟨.hbm, 802, rfl⟩
abbrev main_v733 : Ref sig .tc := ⟨.hbm, 803, rfl⟩
abbrev main_v734 : Ref sig .tc := ⟨.hbm, 804, rfl⟩
abbrev main_v735 : Ref sig .tc := ⟨.hbm, 805, rfl⟩
abbrev main_v736 : Ref sig .tc := ⟨.hbm, 806, rfl⟩
abbrev main_v737 : Ref sig .tc := ⟨.hbm, 807, rfl⟩
abbrev main_v738 : Ref sig .tc := ⟨.hbm, 808, rfl⟩
abbrev main_v739 : Ref sig .tc := ⟨.hbm, 809, rfl⟩
abbrev main_v740 : Ref sig .tc := ⟨.hbm, 810, rfl⟩
abbrev main_v741 : Ref sig .tc := ⟨.hbm, 811, rfl⟩
abbrev main_v742 : Ref sig .tc := ⟨.hbm, 812, rfl⟩
abbrev main_v743 : Ref sig .tc := ⟨.hbm, 813, rfl⟩
abbrev main_v744 : Ref sig .tc := ⟨.hbm, 814, rfl⟩
abbrev main_v745 : Ref sig .tc := ⟨.hbm, 815, rfl⟩
abbrev main_v746 : Ref sig .tc := ⟨.hbm, 816, rfl⟩
abbrev main_v747 : Ref sig .tc := ⟨.hbm, 817, rfl⟩
abbrev main_v748 : Ref sig .tc := ⟨.hbm, 818, rfl⟩
abbrev main_v749 : Ref sig .tc := ⟨.hbm, 819, rfl⟩
abbrev main_v750 : Ref sig .tc := ⟨.hbm, 820, rfl⟩
abbrev main_v751 : Ref sig .tc := ⟨.hbm, 821, rfl⟩
abbrev main_v752 : Ref sig .tc := ⟨.hbm, 822, rfl⟩
abbrev main_v753 : Ref sig .tc := ⟨.hbm, 823, rfl⟩
abbrev main_v754 : Ref sig .tc := ⟨.hbm, 824, rfl⟩
abbrev main_v755 : Ref sig .tc := ⟨.hbm, 825, rfl⟩
abbrev main_v756 : Ref sig .tc := ⟨.hbm, 826, rfl⟩
abbrev main_v757 : Ref sig .tc := ⟨.hbm, 827, rfl⟩
abbrev main_v758 : Ref sig .tc := ⟨.hbm, 828, rfl⟩
abbrev main_v759 : Ref sig .tc := ⟨.hbm, 829, rfl⟩
abbrev main_v760 : Ref sig .tc := ⟨.hbm, 830, rfl⟩
abbrev main_v761 : Ref sig .tc := ⟨.hbm, 831, rfl⟩
abbrev main_v762 : Ref sig .tc := ⟨.hbm, 832, rfl⟩
abbrev main_v763 : Ref sig .tc := ⟨.hbm, 833, rfl⟩
abbrev main_v764 : Ref sig .tc := ⟨.hbm, 834, rfl⟩
abbrev main_v765 : Ref sig .tc := ⟨.hbm, 835, rfl⟩

abbrev nD : Nat := 1
abbrev τ : Topo := Topo.v7x

variable {F : FTy → Type} [FloatOps F]
-- ==== Proof.Body.lean ====
/- The kernel's body written once, for all its stores: which rows of the two loaded arrays a degree owns, the
   products of two of its rows, the sum a row of a block is, and the block one triple of degrees stores. -/
module

public import Idealize.ShloMosaic.Lib.Pipeline
public import Idealize.ShloMosaic.PureOps
public import Mathlib.Tactic.IntervalCases
public import Mathlib.Tactic.Ring

@[expose] public section

noncomputable section

namespace Cert.CG

open Idealize.ShloMosaic Idealize.SL.Sem

/-- One triple of degrees `(l1, l2) → l`: where its block of the output begins, and the word of each coefficient,
    row `p` of the first degree and row `q` of the second at position `p (2 l2 + 1) + q`; the word is zero where the
    kernel has no term. -/
structure Tri where
  l1 : ℕ
  l2 : ℕ
  l : ℕ
  base : ℕ
  words : List ℕ
  h1 : l1 ≤ 5 := by decide
  h2 : l2 ≤ 5 := by decide
  hb : 2 * base + 128 * (2 * l + 1) ≤ 58496 := by decide

variable {F : FTy → Type} [FloatOps F]

/-- The rows of degree `l` lie in the array. -/
theorem slices_cut {l : ℕ} (hl : l ≤ 5) :
    (⟨2, ![288, 128]⟩ : Shape).Slices ![8 * l * l, 0] ⟨2, ![8 * (2 * l + 1), 128]⟩ := by
  refine ⟨rfl, fun a => ?_⟩
  match a with
  | 0 => show 8 * l * l + 8 * (2 * l + 1) ≤ 288; interval_cases l <;> omega
  | 1 => show 0 + 128 ≤ 128; omega

/-- The rows of degree `l` as eight fragments of `2 l + 1` rows. -/
theorem casts_cut (l : ℕ) : (⟨2, ![8 * (2 * l + 1), 128]⟩ : Shape).ShapeCasts ⟨3, ![8, 2 * l + 1, 128]⟩ := by
  simp [Shape.ShapeCasts, Shape.numel, Fin.prod_univ_succ, Nat.mul_assoc]

/-- The rows of degree `l`. -/
def cut (l : ℕ) (hl : l ≤ 5) (v : FVec F ⟨2, ![288, 128]⟩ .f32) : FVec F ⟨3, ![8, 2 * l + 1, 128]⟩ .f32 :=
  shapeCast ⟨3, ![8, 2 * l + 1, 128]⟩
    (extractStridedSlice ⟨2, ![8 * (2 * l + 1), 128]⟩ ![8 * l * l, 0] v (slices_cut hl)) (casts_cut l)

/-- Row `p` of every fragment lies in the fragments. -/
theorem slices_plane {l p : ℕ} (hp : p < 2 * l + 1) :
    (⟨3, ![8, 2 * l + 1, 128]⟩ : Shape).Slices ![0, p, 0] ⟨3, ![8, 1, 128]⟩ := by
  refine ⟨rfl, fun a => ?_⟩
  match a with
  | 0 => show 0 + 8 ≤ 8; omega
  | 1 => show p + 1 ≤ 2 * l + 1; omega
  | 2 => show 0 + 128 ≤ 128; omega

/-- Row `p` of every fragment of degree `l`. -/
def plane (l p : ℕ) (f : FVec F ⟨3, ![8, 2 * l + 1, 128]⟩ .f32) : FVec F ⟨2, ![8, 128]⟩ .f32 :=
  match l, f with
  | 0, f => shapeCast (s := ⟨3, ![8, 1, 128]⟩) ⟨2, ![8, 128]⟩ f (by decide)
  | l + 1, f =>
    if hp : p < 2 * (l + 1) + 1 then
      shapeCast (s := ⟨3, ![8, 1, 128]⟩) ⟨2, ![8, 128]⟩
        (extractStridedSlice ⟨3, ![8, 1, 128]⟩ ![0, p, 0] f (slices_plane hp)) (by decide)
    else broadcast _ (Scalar.ofBits .f32 0x00000000#32)

/-- A row of the first degree, constant along the second degree's fragments. -/
def colA (x : FVec F ⟨2, ![8, 128]⟩ .f32) : FVec F ⟨3, ![8, 8, 128]⟩ .f32 :=
  broadcastTo (s := ⟨3, ![8, 1, 128]⟩) ⟨3, ![8, 8, 128]⟩ (shapeCast ⟨3, ![8, 1, 128]⟩ x (by decide)) (by decide)

/-- A row of the second degree, constant along the first degree's fragments. -/
def colB (x : FVec F ⟨2, ![8, 128]⟩ .f32) : FVec F ⟨3, ![8, 8, 128]⟩ .f32 :=
  broadcastTo (s := ⟨3, ![1, 8, 128]⟩) ⟨3, ![8, 8, 128]⟩ (shapeCast ⟨3, ![1, 8, 128]⟩ x (by decide)) (by decide)

/-- The real part of the products of the fragments of two rows. -/
def prodRe (ar ai br bi : FVec F ⟨2, ![8, 128]⟩ .f32) : FVec F ⟨3, ![8, 8, 128]⟩ .f32 :=
  subf (mulf (colA ar) (colB br)) (mulf (colA ai) (colB bi))

/-- The imaginary part of the products of the fragments of two rows. -/
def prodIm (ar ai br bi : FVec F ⟨2, ![8, 128]⟩ .f32) : FVec F ⟨3, ![8, 8, 128]⟩ .f32 :=
  addf (mulf (colA ar) (colB bi)) (mulf (colA ai) (colB br))

/-- The terms of row `x` of a triple's block: the pairs of rows whose orders add up to the order of row `x`, with
    the coefficient's word, where that is not zero. -/
def Tri.terms (T : Tri) (x : ℕ) : List (ℕ × ℕ × ℕ) :=
  (List.range (2 * T.l1 + 1)).flatMap fun p => (List.range (2 * T.l2 + 1)).filterMap fun q =>
    if p + q + T.l = x + T.l1 + T.l2 ∧ T.words.getD (p * (2 * T.l2 + 1) + q) 0 ≠ 0 then
      some (p, q, T.words.getD (p * (2 * T.l2 + 1) + q) 0)
    else none

/-- The sum of the terms, each the coefficient times a product of rows, from zero on. -/
def rowSum (ts : List (ℕ × ℕ × ℕ)) (t : ℕ → ℕ → FVec F ⟨3, ![8, 8, 128]⟩ .f32) : FVec F ⟨3, ![8, 8, 128]⟩ .f32 :=
  ts.foldl (fun acc e => addf acc (mulf (broadcast ⟨3, ![8, 8, 128]⟩ (Scalar.ofBits .f32 (BitVec.ofNat 32 e.2.2))) (t e.1 e.2.1)))
    (broadcast ⟨3, ![8, 8, 128]⟩ (Scalar.ofBits .f32 0x00000000#32))

/-- Two or more rows stack up to the block of rows. -/
theorem concatenates_rows {α : Type} (l : ℕ) (f : Fin (2 * (l + 1) + 1) → ((⟨4, ![8, 8, 1, 128]⟩ : Shape).Idx → α)) :
    Shape.Concatenates ((List.ofFn fun x => (⟨⟨4, ![8, 8, 1, 128]⟩, f x⟩ : (s : Shape) × (s.Idx → α))).map (·.1))
      ⟨4, ![8, 8, 2 * (l + 1) + 1, 128]⟩ 2 := by
  have e : (List.ofFn fun x => (⟨⟨4, ![8, 8, 1, 128]⟩, f x⟩ : (s : Shape) × (s.Idx → α))).map (·.1)
      = List.replicate (2 * (l + 1) + 1) ⟨4, ![8, 8, 1, 128]⟩ := by
    rw [List.map_ofFn]; exact List.ofFn_const ..
  rw [e]
  refine ⟨by rw [List.length_replicate]; omega, fun s hs => ?_, ?_⟩
  · obtain ⟨_, rfl⟩ := List.mem_replicate.1 hs
    refine ⟨rfl, fun b hb => ?_⟩
    match b with
    | 0 => rfl
    | 1 => rfl
    | 2 => exact absurd rfl hb
    | 3 => rfl
  · simp

/-- The rows of a block side by side. -/
def stack (l : ℕ) (r : ℕ → FVec F ⟨3, ![8, 8, 128]⟩ .f32) : FVec F ⟨4, ![8, 8, 2 * l + 1, 128]⟩ .f32 :=
  match l with
  | 0 => shapeCast ⟨4, ![8, 8, 1, 128]⟩ (r 0) (by decide)
  | l + 1 =>
    concatenate ⟨4, ![8, 8, 2 * (l + 1) + 1, 128]⟩ 2
      (List.ofFn fun x : Fin (2 * (l + 1) + 1) => ⟨⟨4, ![8, 8, 1, 128]⟩, shapeCast ⟨4, ![8, 8, 1, 128]⟩ (r x.val) (by decide)⟩)
      (concatenates_rows l _)

/-- A block of rows with an axis of one for the part. -/
theorem casts_part (l : ℕ) : (⟨4, ![8, 8, 2 * l + 1, 128]⟩ : Shape).ShapeCasts ⟨5, ![8, 8, 2 * l + 1, 1, 128]⟩ := by
  simp [Shape.ShapeCasts, Shape.numel, Fin.prod_univ_succ]

/-- The two parts side by side. -/
theorem concatenates_parts (l : ℕ) :
    Shape.Concatenates [⟨5, ![8, 8, 2 * l + 1, 1, 128]⟩, ⟨5, ![8, 8, 2 * l + 1, 1, 128]⟩] ⟨5, ![8, 8, 2 * l + 1, 2, 128]⟩ 3 := by
  refine ⟨by simp, fun s hs => ?_, ?_⟩
  · obtain rfl : s = ⟨5, ![8, 8, 2 * l + 1, 1, 128]⟩ := by simpa using hs
    refine ⟨rfl, fun b hb => ?_⟩
    match b with
    | 0 => rfl
    | 1 => rfl
    | 2 => rfl
    | 3 => exact absurd rfl hb
    | 4 => rfl
  · simp

/-- All axes but the last in one. -/
theorem casts_flat (l : ℕ) : (⟨5, ![8, 8, 2 * l + 1, 2, 128]⟩ : Shape).ShapeCasts ⟨2, ![128 * (2 * l + 1), 128]⟩ := by
  simp [Shape.ShapeCasts, Shape.numel, Fin.prod_univ_succ]; ring

/-- The batch first. -/
theorem transposes_flat (w : ℕ) : (⟨2, ![w, 128]⟩ : Shape).Transposes [1, 0] ⟨2, ![128, w]⟩ := by
  refine ⟨show [(1 : Fin 2), 0].Perm (List.finRange 2) by decide, rfl, fun b => ?_⟩
  match b with
  | 0 => rfl
  | 1 => rfl

/-- What a triple stores, of its real and its imaginary rows. -/
def interleave (l : ℕ) (r i : ℕ → FVec F ⟨3, ![8, 8, 128]⟩ .f32) : FVec F ⟨2, ![128, 128 * (2 * l + 1)]⟩ .f32 :=
  transpose (s := ⟨2, ![128 * (2 * l + 1), 128]⟩) ⟨2, ![128, 128 * (2 * l + 1)]⟩ [1, 0]
    (shapeCast ⟨2, ![128 * (2 * l + 1), 128]⟩
      (concatenate ⟨5, ![8, 8, 2 * l + 1, 2, 128]⟩ 3
        [⟨⟨5, ![8, 8, 2 * l + 1, 1, 128]⟩, shapeCast ⟨5, ![8, 8, 2 * l + 1, 1, 128]⟩ (stack l r) (casts_part l)⟩,
         ⟨⟨5, ![8, 8, 2 * l + 1, 1, 128]⟩, shapeCast ⟨5, ![8, 8, 2 * l + 1, 1, 128]⟩ (stack l i) (casts_part l)⟩]
        (concatenates_parts l)) (casts_flat l)) (transposes_flat _)

/-- What the triple stores, of the loaded real and imaginary parts. -/
def Tri.block (T : Tri) (vr vi : FVec F ⟨2, ![288, 128]⟩ .f32) : FVec F ⟨2, ![128, 128 * (2 * T.l + 1)]⟩ .f32 :=
  interleave T.l
    (fun x => rowSum (T.terms x) fun p q =>
      prodRe (plane T.l1 p (cut T.l1 T.h1 vr)) (plane T.l1 p (cut T.l1 T.h1 vi))
        (plane T.l2 q (cut T.l2 T.h2 vr)) (plane T.l2 q (cut T.l2 T.h2 vi)))
    (fun x => rowSum (T.terms x) fun p q =>
      prodIm (plane T.l1 p (cut T.l1 T.h1 vr)) (plane T.l1 p (cut T.l1 T.h1 vi))
        (plane T.l2 q (cut T.l2 T.h2 vr)) (plane T.l2 q (cut T.l2 T.h2 vi)))

/-- A triple's columns lie in the output block. -/
theorem Tri.inb (T : Tri) :
    ∀ a, (![0, 2 * T.base] : Fin 2 → ℕ) a + (⟨2, ![128, 128 * (2 * T.l + 1)]⟩ : Shape).size a ≤ (⟨2, ![128, 58496]⟩ : Shape).size a := by
  intro a
  match a with
  | 0 => show 0 + 128 ≤ 128; omega
  | 1 => exact T.hb

/-- A triple's columns of the output block. -/
def Tri.rect (T : Tri) : Rect ⟨2, ![128, 58496]⟩ :=
  Rect.unit (s := ⟨2, ![128, 58496]⟩) ![0, 2 * T.base] (⟨2, ![128, 128 * (2 * T.l + 1)]⟩ : Shape).size T.inb

/-- A triple has a column. -/
theorem Tri.pos (T : Tri) : 0 < (⟨2, ![128, 128 * (2 * T.l + 1)]⟩ : Shape).numel := by
  simp [Shape.numel, Fin.prod_univ_succ]

/-- The two loads have something to read. -/
theorem pos_in : 0 < (⟨2, ![288, 128]⟩ : Shape).numel := by simp [Shape.numel, Fin.prod_univ_succ]

/-- The loaded rectangle is the whole block. -/
theorem inb_in : ∀ a, (![0, 0] : Fin 2 → ℕ) a + (⟨2, ![288, 128]⟩ : Shape).size a ≤ (⟨2, ![288, 128]⟩ : Shape).size a := by
  decide

variable {nD : ℕ} {τ : Topo} {sig : RefSig} {Λ : Labels}

/-- The stores of the triples, each after a load of the columns it overwrites. -/
def stores (arg3 : Memref sig .tc .vmem ⟨2, ![128, 58496]⟩ .f32) (vr vi : FVec F ⟨2, ![288, 128]⟩ .f32) :
    List Tri → Prog (TpuEff nD τ sig (Elt F) Λ .tc) PUnit
  | [] => .ret ⟨⟩
  | T :: Ts =>
    .op (.load arg3 T.rect.toLoadRect (View.loadsAt_vmem T.pos)) fun _ =>
      .op (.store arg3 T.rect (T.block vr vi) Finset.univ (View.stores_vmem_bits_univ T.pos rfl) (.inl rfl)) fun _ =>
        stores arg3 vr vi Ts

/-- The body: both parts loaded whole, then the stores. -/
def body (Ts : List Tri) (arg1 arg2 : Memref sig .tc .vmem ⟨2, ![288, 128]⟩ .f32)
    (arg3 : Memref sig .tc .vmem ⟨2, ![128, 58496]⟩ .f32) : Prog (TpuEff nD τ sig (Elt F) Λ .tc) PUnit :=
  .op (.load arg1 (Rect.unit (s := ⟨2, ![288, 128]⟩) ![0, 0] (⟨2, ![288, 128]⟩ : Shape).size inb_in).toLoadRect
      (View.loadsAt_vmem pos_in)) fun (v0 : Vec F ⟨2, ![288, 128]⟩ .f32) =>
    .op (.load arg2 (Rect.unit (s := ⟨2, ![288, 128]⟩) ![0, 0] (⟨2, ![288, 128]⟩ : Shape).size inb_in).toLoadRect
        (View.loadsAt_vmem pos_in)) fun (v2 : Vec F ⟨2, ![288, 128]⟩ .f32) =>
      stores arg3 (shapeCast (s := ⟨2, ![288, 128]⟩) ⟨2, ![288, 128]⟩ v0 rfl) (shapeCast (s := ⟨2, ![288, 128]⟩) ⟨2, ![288, 128]⟩ v2 rfl) Ts

end Cert.CG
-- ==== Proof.Plan.lean ====
/- The triples of degrees in the order in which the kernel stores them, each with the words of its coefficients. -/
module

public import proofs.«01_k».proof.Proof.Body

@[expose] public section

noncomputable section

namespace Cert.CG

/-- Degrees 0 and 0 to degree 0. -/
def t000 : Tri where
  l1 := 0
  l2 := 0
  l := 0
  base := 0
  words := [
    0x3f800000]

/-- Degrees 1 and 0 to degree 1. -/
def t101 : Tri where
  l1 := 1
  l2 := 0
  l := 1
  base := 384
  words := [
    0x3f800000, 0x3f800000, 0x3f800000]

/-- Degrees 1 and 1 to degree 0. -/
def t110 : Tri where
  l1 := 1
  l2 := 1
  l := 0
  base := 64
  words := [
    0, 0, 0x3f13cd3a, 0, 0xbf13cd3a, 0, 0x3f13cd3a, 0, 0]

/-- Degrees 1 and 1 to degree 1. -/
def t111 : Tri where
  l1 := 1
  l2 := 1
  l := 1
  base := 576
  words := [
    0, 0xbf3504f3, 0xbf3504f3, 0x3f3504f3, 0, 0xbf3504f3, 0x3f3504f3, 0x3f3504f3, 0]

/-- Degrees 1 and 1 to degree 2. -/
def t112 : Tri where
  l1 := 1
  l2 := 1
  l := 2
  base := 2304
  words := [
    0x3f800000, 0x3f3504f3, 0x3ed105ec, 0x3f3504f3, 0x3f5105ec, 0x3f3504f3, 0x3ed105ec, 0x3f3504f3, 0x3f800000]

/-- Degrees 2 and 0 to degree 2. -/
def t202 : Tri where
  l1 := 2
  l2 := 0
  l := 2
  base := 2624
  words := [
    0x3f800000, 0x3f800000, 0x3f800000, 0x3f800000, 0x3f800000]

/-- Degrees 2 and 1 to degree 1. -/
def t211 : Tri where
  l1 := 2
  l2 := 1
  l := 1
  base := 768
  words := [
    0, 0, 0x3f464bf8, 0, 0xbf0c378c, 0x3f0c378c, 0x3ea1e89b, 0xbf21e89b, 0x3ea1e89b, 0x3f0c378c, 0xbf0c378c, 0,
    0x3f464bf8, 0, 0]

/-- Degrees 2 and 1 to degree 2. -/
def t212 : Tri where
  l1 := 2
  l2 := 1
  l := 2
  base := 2944
  words := [
    0, 0xbf5105ec, 0xbf13cd3a, 0x3f13cd3a, 0xbed105ec, 0xbf3504f3, 0x3f3504f3, 0, 0xbf3504f3, 0x3f3504f3,
    0x3ed105ec, 0xbf13cd3a, 0x3f13cd3a, 0x3f5105ec, 0]

/-- Degrees 2 and 1 to degree 3. -/
def t213 : Tri where
  l1 := 2
  l2 := 1
  l := 3
  base := 6464
  words := [
    0x3f800000, 0x3f13cd3a, 0x3e8432a5, 0x3f5105ec, 0x3f3af4ba, 0x3ee4f92e, 0x3f21e89b, 0x3f464bf8, 0x3f21e89b,
    0x3ee4f92e, 0x3f3af4ba, 0x3f5105ec, 0x3e8432a5, 0x3f13cd3a, 0x3f800000]

/-- Degrees 2 and 2 to degree 0. -/
def t220 : Tri where
  l1 := 2
  l2 := 2
  l := 0
  base := 128
  words := [
    0, 0, 0, 0, 0x3ee4f92e, 0, 0, 0, 0xbee4f92e, 0, 0, 0, 0x3ee4f92e, 0, 0, 0, 0xbee4f92e, 0, 0, 0, 0x3ee4f92e, 0,
    0, 0, 0]

/-- Degrees 2 and 2 to degree 1. -/
def t221 : Tri where
  l1 := 2
  l2 := 2
  l := 1
  base := 960
  words := [
    0, 0, 0, 0xbee4f92e, 0xbf21e89b, 0, 0, 0x3f0c378c, 0x3ea1e89b, 0xbee4f92e, 0, 0xbf0c378c, 0, 0x3f0c378c, 0,
    0x3ee4f92e, 0xbea1e89b, 0xbf0c378c, 0, 0, 0x3f21e89b, 0x3ee4f92e, 0, 0, 0]

/-- Degrees 2 and 2 to degree 2. -/
def t222 : Tri where
  l1 := 2
  l2 := 2
  l := 2
  base := 3264
  words := [
    0, 0, 0x3f08d677, 0x3f279762, 0x3f08d677, 0, 0xbf279762, 0xbe88d677, 0x3e88d677, 0x3f279762, 0x3f08d677,
    0xbe88d677, 0xbf08d677, 0xbe88d677, 0x3f08d677, 0x3f279762, 0x3e88d677, 0xbe88d677, 0xbf279762, 0, 0x3f08d677,
    0x3f279762, 0x3f08d677, 0, 0]

/-- Degrees 2 and 2 to degree 3. -/
def t223 : Tri where
  l1 := 2
  l2 := 2
  l := 3
  base := 6912
  words := [
    0, 0xbf3504f3, 0xbf3504f3, 0xbf0c378c, 0xbea1e89b, 0x3f3504f3, 0, 0xbee4f92e, 0xbf21e89b, 0xbf0c378c,
    0x3f3504f3, 0x3ee4f92e, 0, 0xbee4f92e, 0xbf3504f3, 0x3f0c378c, 0x3f21e89b, 0x3ee4f92e, 0, 0xbf3504f3,
    0x3ea1e89b, 0x3f0c378c, 0x3f3504f3, 0x3f3504f3, 0]

/-- Degrees 2 and 2 to degree 4. -/
def t224 : Tri where
  l1 := 2
  l2 := 2
  l := 4
  base := 12736
  words := [
    0x3f800000, 0x3f3504f3, 0x3eed028c, 0x3e88d677, 0x3df4c867, 0x3f3504f3, 0x3f41848f, 0x3f279762, 0x3ef4c867,
    0x3e88d677, 0x3eed028c, 0x3f279762, 0x3f37964d, 0x3f279762, 0x3eed028c, 0x3e88d677, 0x3ef4c867, 0x3f279762,
    0x3f41848f, 0x3f3504f3, 0x3df4c867, 0x3e88d677, 0x3eed028c, 0x3f3504f3, 0x3f800000]

/-- Degrees 3 and 0 to degree 3. -/
def t303 : Tri where
  l1 := 3
  l2 := 0
  l := 3
  base := 7360
  words := [
    0x3f800000, 0x3f800000, 0x3f800000, 0x3f800000, 0x3f800000, 0x3f800000, 0x3f800000]

/-- Degrees 3 and 1 to degree 2. -/
def t312 : Tri where
  l1 := 3
  l2 := 1
  l := 2
  base := 3584
  words := [
    0, 0, 0x3f585c07, 0, 0xbef9d496, 0x3f30a823, 0x3e5f7483, 0xbf1e01b3, 0x3f08d677, 0x3ec1848f, 0xbf279762,
    0x3ec1848f, 0x3f08d677, 0xbf1e01b3, 0x3e5f7483, 0x3f30a823, 0xbef9d496, 0, 0x3f585c07, 0, 0]

/-- Degrees 3 and 1 to degree 3. -/
def t313 : Tri where
  l1 := 3
  l2 := 1
  l := 3
  base := 7808
  words := [
    0, 0xbf5db3d7, 0xbf000000, 0x3f000000, 0xbf13cd3a, 0xbf253f4e, 0x3f253f4e, 0xbe93cd3a, 0xbf3504f3, 0x3f3504f3,
    0, 0xbf3504f3, 0x3f3504f3, 0x3e93cd3a, 0xbf253f4e, 0x3f253f4e, 0x3f13cd3a, 0xbf000000, 0x3f000000, 0x3f5db3d7, 0]

/-- Degrees 3 and 1 to degree 4. -/
def t314 : Tri where
  l1 := 3
  l2 := 1
  l := 4
  base := 13312
  words := [
    0x3f800000, 0x3f000000, 0x3e41848f, 0x3f5db3d7, 0x3f279762, 0x3ea79762, 0x3f3b5f71, 0x3f3b5f71, 0x3eed028c,
    0x3f18fd40, 0x3f41848f, 0x3f18fd40, 0x3eed028c, 0x3f3b5f71, 0x3f3b5f71, 0x3ea79762, 0x3f279762, 0x3f5db3d7,
    0x3e41848f, 0x3f000000, 0x3f800000]

/-- Degrees 3 and 2 to degree 1. -/
def t321 : Tri where
  l1 := 3
  l2 := 2
  l := 1
  base := 1152
  words := [
    0, 0, 0, 0, 0x3f279762, 0, 0, 0, 0xbf08d677, 0x3ec1848f, 0, 0, 0x3ed3fcf7, 0xbef4c867, 0x3e2d166c, 0,
    0xbe95e5f4, 0x3f01d0d1, 0xbe95e5f4, 0, 0x3e2d166c, 0xbef4c867, 0x3ed3fcf7, 0, 0, 0x3ec1848f, 0xbf08d677, 0, 0,
    0, 0x3f279762, 0, 0, 0, 0]

/-- Degrees 3 and 2 to degree 2. -/
def t322 : Tri where
  l1 := 3
  l2 := 2
  l := 2
  base := 3904
  words := [
    0, 0, 0, 0xbf18fd40, 0xbf18fd40, 0, 0, 0x3f18fd40, 0, 0xbf18fd40, 0, 0xbeed028c, 0x3ec1848f, 0x3ec1848f,
    0xbeed028c, 0x3e88d677, 0xbf08d677, 0, 0x3f08d677, 0xbe88d677, 0x3eed028c, 0xbec1848f, 0xbec1848f, 0x3eed028c,
    0, 0x3f18fd40, 0, 0xbf18fd40, 0, 0, 0x3f18fd40, 0x3f18fd40, 0, 0, 0]

/-- Degrees 3 and 2 to degree 3. -/
def t323 : Tri where
  l1 := 3
  l2 := 2
  l := 3
  base := 8256
  words := [
    0, 0, 0x3f253f4e, 0x3f253f4e, 0x3ed105ec, 0, 0xbf253f4e, 0, 0x3f000000, 0x3f13cd3a, 0x3ed105ec, 0xbf000000,
    0xbec64bf8, 0x3e3af4ba, 0x3f21e89b, 0x3f13cd3a, 0xbe3af4ba, 0xbf0432a5, 0xbe3af4ba, 0x3f13cd3a, 0x3f21e89b,
    0x3e3af4ba, 0xbec64bf8, 0xbf000000, 0x3ed105ec, 0x3f13cd3a, 0x3f000000, 0, 0xbf253f4e, 0, 0x3ed105ec,
    0x3f253f4e, 0x3f253f4e, 0, 0]

/-- Degrees 3 and 2 to degree 4. -/
def t324 : Tri where
  l1 := 3
  l2 := 2
  l := 4
  base := 13888
  words := [
    0, 0xbf464bf8, 0xbf2bbae3, 0xbee0d8ee, 0xbe53fcf7, 0x3f21e89b, 0xbe64f92e, 0xbf15e5f4, 0xbf17739f, 0xbec1848f,
    0x3f3504f3, 0x3e41848f, 0xbea79762, 0xbf18fd40, 0xbf08d677, 0x3f279762, 0x3eed028c, 0, 0xbeed028c, 0xbf279762,
    0x3f08d677, 0x3f18fd40, 0x3ea79762, 0xbe41848f, 0xbf3504f3, 0x3ec1848f, 0x3f17739f, 0x3f15e5f4, 0x3e64f92e,
    0xbf21e89b, 0x3e53fcf7, 0x3ee0d8ee, 0x3f2bbae3, 0x3f464bf8, 0]

/-- Degrees 3 and 2 to degree 5. -/
def t325 : Tri where
  l1 := 3
  l2 := 2
  l := 5
  base := 20800
  words := [
    0x3f800000, 0x3f21e89b, 0x3ebaf4ba, 0x3e3af4ba, 0x3d8d534f, 0x3f464bf8, 0x3f3af4ba, 0x3f0c378c, 0x3ead166c,
    0x3e1e01b3, 0x3f13cd3a, 0x3f3504f3, 0x3f279762, 0x3ef9d496, 0x3e88d677, 0x3ed105ec, 0x3f1e01b3, 0x3f30a823,
    0x3f1e01b3, 0x3ed105ec, 0x3e88d677, 0x3ef9d496, 0x3f279762, 0x3f3504f3, 0x3f13cd3a, 0x3e1e01b3, 0x3ead166c,
    0x3f0c378c, 0x3f3af4ba, 0x3f464bf8, 0x3d8d534f, 0x3e3af4ba, 0x3ebaf4ba, 0x3f21e89b, 0x3f800000]

/-- Degrees 3 and 3 to degree 0. -/
def t330 : Tri where
  l1 := 3
  l2 := 3
  l := 0
  base := 192
  words := [
    0, 0, 0, 0, 0, 0, 0x3ec1848f, 0, 0, 0, 0, 0, 0xbec1848f, 0, 0, 0, 0, 0, 0x3ec1848f, 0, 0, 0, 0, 0, 0xbec1848f,
    0, 0, 0, 0, 0, 0x3ec1848f, 0, 0, 0, 0, 0, 0xbec1848f, 0, 0, 0, 0, 0, 0x3ec1848f, 0, 0, 0, 0, 0, 0]

/-- Degrees 3 and 3 to degree 1. -/
def t331 : Tri where
  l1 := 3
  l2 := 3
  l := 1
  base := 1344
  words := [
    0, 0, 0, 0, 0, 0xbea79762, 0xbf11236b, 0, 0, 0, 0, 0x3ed85c07, 0x3ec1848f, 0xbea79762, 0, 0, 0, 0xbeed028c,
    0xbe41848f, 0x3ed85c07, 0, 0, 0, 0x3eed028c, 0, 0xbeed028c, 0, 0, 0, 0xbed85c07, 0x3e41848f, 0x3eed028c, 0, 0,
    0, 0x3ea79762, 0xbec1848f, 0xbed85c07, 0, 0, 0, 0, 0x3f11236b, 0x3ea79762, 0, 0, 0, 0, 0]

/-- Degrees 3 and 3 to degree 2. -/
def t332 : Tri where
  l1 := 3
  l2 := 3
  l := 2
  base := 4224
  words := [
    0, 0, 0, 0, 0x3eb0a823, 0x3f0ba8d2, 0x3f0ba8d2, 0, 0, 0, 0xbef9d496, 0xbed85c07, 0, 0x3f0ba8d2, 0, 0,
    0x3f08d677, 0x3e1e01b3, 0xbea79762, 0xbed85c07, 0x3eb0a823, 0, 0xbef9d496, 0x3e1e01b3, 0x3edf7483, 0x3e1e01b3,
    0xbef9d496, 0, 0x3eb0a823, 0xbed85c07, 0xbea79762, 0x3e1e01b3, 0x3f08d677, 0, 0, 0x3f0ba8d2, 0, 0xbed85c07,
    0xbef9d496, 0, 0, 0, 0x3f0ba8d2, 0x3f0ba8d2, 0x3eb0a823, 0, 0, 0, 0]

/-- Degrees 3 and 3 to degree 3. -/
def t333 : Tri where
  l1 := 3
  l2 := 3
  l := 3
  base := 8704
  words := [
    0, 0, 0, 0xbed105ec, 0xbf13cd3a, 0xbf13cd3a, 0xbed105ec, 0, 0, 0x3f13cd3a, 0x3ed105ec, 0, 0xbed105ec,
    0xbf13cd3a, 0, 0xbf13cd3a, 0, 0x3ed105ec, 0x3ed105ec, 0, 0xbf13cd3a, 0x3ed105ec, 0xbed105ec, 0xbed105ec, 0,
    0x3ed105ec, 0x3ed105ec, 0xbed105ec, 0x3f13cd3a, 0, 0xbed105ec, 0xbed105ec, 0, 0x3f13cd3a, 0, 0x3f13cd3a,
    0x3ed105ec, 0, 0xbed105ec, 0xbf13cd3a, 0, 0, 0x3ed105ec, 0x3f13cd3a, 0x3f13cd3a, 0x3ed105ec, 0, 0, 0]

/-- Degrees 3 and 3 to degree 4. -/
def t334 : Tri where
  l1 := 3
  l2 := 3
  l := 4
  base := 14464
  words := [
    0, 0, 0x3f05b10f, 0x3f23bcf7, 0x3f179792, 0x3ee1fae9, 0x3e778c7f, 0, 0xbf2c985d, 0xbe9a5fb2, 0x3e0eec21,
    0x3ee9642a, 0x3f10674a, 0x3ee1fae9, 0x3f05b10f, 0xbe9a5fb2, 0xbf02783d, 0xbe9fcac5, 0x3da50855, 0x3ee9642a,
    0x3f179792, 0x3f23bcf7, 0x3e0eec21, 0xbe9fcac5, 0xbef78c7f, 0xbe9fcac5, 0x3e0eec21, 0x3f23bcf7, 0x3f179792,
    0x3ee9642a, 0x3da50855, 0xbe9fcac5, 0xbf02783d, 0xbe9a5fb2, 0x3f05b10f, 0x3ee1fae9, 0x3f10674a, 0x3ee9642a,
    0x3e0eec21, 0xbe9a5fb2, 0xbf2c985d, 0, 0x3e778c7f, 0x3ee1fae9, 0x3f179792, 0x3f23bcf7, 0x3f05b10f, 0, 0]

/-- Degrees 3 and 3 to degree 5. -/
def t335 : Tri where
  l1 := 3
  l2 := 3
  l := 5
  base := 21504
  words := [
    0, 0xbf3504f3, 0xbf3504f3, 0xbf13cd3a, 0xbed105ec, 0xbe79d496, 0xbddf7483, 0x3f3504f3, 0, 0xbed105ec,
    0xbf13cd3a, 0xbf11236b, 0xbedf7483, 0xbe79d496, 0x3f3504f3, 0x3ed105ec, 0, 0xbeb0a823, 0xbf0ba8d2, 0xbf11236b,
    0xbed105ec, 0x3f13cd3a, 0x3f13cd3a, 0x3eb0a823, 0, 0xbeb0a823, 0xbf13cd3a, 0xbf13cd3a, 0x3ed105ec, 0x3f11236b,
    0x3f0ba8d2, 0x3eb0a823, 0, 0xbed105ec, 0xbf3504f3, 0x3e79d496, 0x3edf7483, 0x3f11236b, 0x3f13cd3a, 0x3ed105ec,
    0, 0xbf3504f3, 0x3ddf7483, 0x3e79d496, 0x3ed105ec, 0x3f13cd3a, 0x3f3504f3, 0x3f3504f3, 0]

/-- Degrees 4 and 0 to degree 4. -/
def t404 : Tri where
  l1 := 4
  l2 := 0
  l := 4
  base := 15040
  words := [
    0x3f800000, 0x3f800000, 0x3f800000, 0x3f800000, 0x3f800000, 0x3f800000, 0x3f800000, 0x3f800000, 0x3f800000]

/-- Degrees 4 and 1 to degree 3. -/
def t413 : Tri where
  l1 := 4
  l2 := 1
  l := 3
  base := 9152
  words := [
    0, 0, 0x3f61c552, 0, 0xbee1c552, 0x3f4385f2, 0x3e2aaaab, 0xbf13cd3a, 0x3f253f4e, 0x3e93cd3a, 0xbf253f4e,
    0x3f06ec81, 0x3ed105ec, 0xbf2aaaab, 0x3ed105ec, 0x3f06ec81, 0xbf253f4e, 0x3e93cd3a, 0x3f253f4e, 0xbf13cd3a,
    0x3e2aaaab, 0x3f4385f2, 0xbee1c552, 0, 0x3f61c552, 0, 0]

/-- Degrees 4 and 1 to degree 4. -/
def t414 : Tri where
  l1 := 4
  l2 := 1
  l := 4
  base := 15616
  words := [
    0, 0xbf64f92e, 0xbee4f92e, 0x3ee4f92e, 0xbf2bbae3, 0xbf17739f, 0x3f17739f, 0xbee4f92e, 0xbf2bbae3, 0x3f2bbae3,
    0xbe64f92e, 0xbf3504f3, 0x3f3504f3, 0, 0xbf3504f3, 0x3f3504f3, 0x3e64f92e, 0xbf2bbae3, 0x3f2bbae3, 0x3ee4f92e,
    0xbf17739f, 0x3f17739f, 0x3f2bbae3, 0xbee4f92e, 0x3ee4f92e, 0x3f64f92e, 0]

/-- Degrees 4 and 1 to degree 5. -/
def t415 : Tri where
  l1 := 4
  l2 := 1
  l := 5
  base := 22208
  words := [
    0x3f800000, 0x3ee4f92e, 0x3e18a61f, 0x3f64f92e, 0x3f18a61f, 0x3e8432a5, 0x3f49ef7e, 0x3f2ee19c, 0x3ebaf4ba,
    0x3f2ee19c, 0x3f3af4ba, 0x3ef15bef, 0x3f13cd3a, 0x3f3ecfa6, 0x3f13cd3a, 0x3ef15bef, 0x3f3af4ba, 0x3f2ee19c,
    0x3ebaf4ba, 0x3f2ee19c, 0x3f49ef7e, 0x3e8432a5, 0x3f18a61f, 0x3f64f92e, 0x3e18a61f, 0x3ee4f92e, 0x3f800000]

/-- Degrees 4 and 2 to degree 2. -/
def t422 : Tri where
  l1 := 4
  l2 := 2
  l := 2
  base := 4544
  words := [
    0, 0, 0, 0, 0x3f3ecfa6, 0, 0, 0, 0xbf06ec81, 0x3f06ec81, 0, 0, 0x3eb0a823, 0xbf103d5a, 0x3eb0a823, 0,
    0xbe4bfc56, 0x3ef9d496, 0xbef9d496, 0x3e4bfc56, 0x3db6734a, 0xbeb6734a, 0x3f08d677, 0xbeb6734a, 0x3db6734a,
    0x3e4bfc56, 0xbef9d496, 0x3ef9d496, 0xbe4bfc56, 0, 0x3eb0a823, 0xbf103d5a, 0x3eb0a823, 0, 0, 0x3f06ec81,
    0xbf06ec81, 0, 0, 0, 0x3f3ecfa6, 0, 0, 0, 0]

/-- Degrees 4 and 2 to degree 3. -/
def t423 : Tri where
  l1 := 4
  l2 := 2
  l := 3
  base := 9600
  words := [
    0, 0, 0, 0xbf2ee19c, 0xbf0eca3c, 0, 0, 0x3f17739f, 0xbe49ef7e, 0xbf1fa4e0, 0, 0xbec64bf8, 0x3f0432a5,
    0x3e2aaaab, 0xbf13cd3a, 0x3e3af4ba, 0xbf05915b, 0x3e93cd3a, 0x3ed105ec, 0xbef15bef, 0x3eaaaaab, 0xbf06ec81, 0,
    0x3f06ec81, 0xbeaaaaab, 0x3ef15bef, 0xbed105ec, 0xbe93cd3a, 0x3f05915b, 0xbe3af4ba, 0x3f13cd3a, 0xbe2aaaab,
    0xbf0432a5, 0x3ec64bf8, 0, 0x3f1fa4e0, 0x3e49ef7e, 0xbf17739f, 0, 0, 0x3f0eca3c, 0x3f2ee19c, 0, 0, 0]

/-- Degrees 4 and 2 to degree 4. -/
def t424 : Tri where
  l1 := 4
  l2 := 2
  l := 4
  base := 16192
  words := [
    0, 0, 0x3f36a855, 0x3f1e2fa3, 0x3ea91ba8, 0, 0xbf1e2fa3, 0x3e36a855, 0x3f1578c8, 0x3efda97c, 0x3ea91ba8,
    0xbf1578c8, 0xbe50c062, 0x3ecb61d2, 0x3f179792, 0x3efda97c, 0xbecb61d2, 0xbeddcc68, 0x3e0eec21, 0x3f1fcac5,
    0x3f179792, 0xbe0eec21, 0xbf02783d, 0xbe0eec21, 0x3f179792, 0x3f1fcac5, 0x3e0eec21, 0xbeddcc68, 0xbecb61d2,
    0x3efda97c, 0x3f179792, 0x3ecb61d2, 0xbe50c062, 0xbf1578c8, 0x3ea91ba8, 0x3efda97c, 0x3f1578c8, 0x3e36a855,
    0xbf1e2fa3, 0, 0x3ea91ba8, 0x3f1e2fa3, 0x3f36a855, 0, 0]

/-- Degrees 4 and 2 to degree 5. -/
def t425 : Tri where
  l1 := 4
  l2 := 2
  l := 5
  base := 22912
  words := [
    0, 0xbf5105ec, 0xbf21e89b, 0xbebaf4ba, 0xbe18a61f, 0x3f13cd3a, 0xbebaf4ba, 0xbf21e89b, 0xbf06ec81, 0xbe8eca3c,
    0x3f2ee19c, 0, 0xbef751cb, 0xbf18a61f, 0xbed105ec, 0x3f2ee19c, 0x3e8eca3c, 0xbe8432a5, 0xbf13cd3a, 0xbf06ec81,
    0x3f1fa4e0, 0x3ef15bef, 0, 0xbef15bef, 0xbf1fa4e0, 0x3f06ec81, 0x3f13cd3a, 0x3e8432a5, 0xbe8eca3c, 0xbf2ee19c,
    0x3ed105ec, 0x3f18a61f, 0x3ef751cb, 0, 0xbf2ee19c, 0x3e8eca3c, 0x3f06ec81, 0x3f21e89b, 0x3ebaf4ba, 0xbf13cd3a,
    0x3e18a61f, 0x3ebaf4ba, 0x3f21e89b, 0x3f5105ec, 0]

/-- Degrees 4 and 3 to degree 1. -/
def t431 : Tri where
  l1 := 4
  l2 := 3
  l := 1
  base := 1536
  words := [
    0, 0, 0, 0, 0, 0, 0x3f13cd3a, 0, 0, 0, 0, 0, 0xbf000000, 0x3e93cd3a, 0, 0, 0, 0, 0x3ed85c07, 0xbec1848f,
    0x3ddf7483, 0, 0, 0, 0xbeb0a823, 0x3ed85c07, 0xbe41848f, 0, 0, 0, 0x3e88d677, 0xbedf7483, 0x3e88d677, 0, 0, 0,
    0xbe41848f, 0x3ed85c07, 0xbeb0a823, 0, 0, 0, 0x3ddf7483, 0xbec1848f, 0x3ed85c07, 0, 0, 0, 0, 0x3e93cd3a,
    0xbf000000, 0, 0, 0, 0, 0, 0x3f13cd3a, 0, 0, 0, 0, 0, 0]

/-- Degrees 4 and 3 to degree 2. -/
def t432 : Tri where
  l1 := 4
  l2 := 3
  l := 2
  base := 4864
  words := [
    0, 0, 0, 0, 0, 0xbef15bef, 0xbf13cd3a, 0, 0, 0, 0, 0x3f06ec81, 0x3e2aaaab, 0xbf000000, 0, 0, 0, 0xbef9d496,
    0x3e103d5a, 0x3edf7483, 0xbea79762, 0, 0, 0x3ecbfc56, 0xbeb0a823, 0xbe79d496, 0x3ee1c552, 0xbe1e01b3, 0,
    0xbe903d5a, 0x3ee4101c, 0, 0xbee4101c, 0x3e903d5a, 0, 0x3e1e01b3, 0xbee1c552, 0x3e79d496, 0x3eb0a823,
    0xbecbfc56, 0, 0, 0x3ea79762, 0xbedf7483, 0xbe103d5a, 0x3ef9d496, 0, 0, 0, 0x3f000000, 0xbe2aaaab, 0xbf06ec81,
    0, 0, 0, 0, 0x3f13cd3a, 0x3ef15bef, 0, 0, 0, 0, 0]

/-- Degrees 4 and 3 to degree 3. -/
def t433 : Tri where
  l1 := 4
  l2 := 3
  l := 3
  base := 10048
  words := [
    0, 0, 0, 0, 0x3eebcf55, 0x3f1836f2, 0x3eebcf55, 0, 0, 0, 0xbf10674a, 0xbe882518, 0x3e882518, 0x3f10674a, 0, 0,
    0x3f05b10f, 0xbdfc1764, 0xbee6207c, 0xbdfc1764, 0x3f05b10f, 0, 0xbec74bb5, 0x3ecdd4ed, 0x3e8cec61, 0xbe8cec61,
    0xbecdd4ed, 0x3ec74bb5, 0x3e5a514a, 0xbefeb42c, 0x3d918b87, 0x3eda514a, 0x3d918b87, 0xbefeb42c, 0x3e5a514a,
    0x3ec74bb5, 0xbecdd4ed, 0xbe8cec61, 0x3e8cec61, 0x3ecdd4ed, 0xbec74bb5, 0, 0x3f05b10f, 0xbdfc1764, 0xbee6207c,
    0xbdfc1764, 0x3f05b10f, 0, 0, 0x3f10674a, 0x3e882518, 0xbe882518, 0xbf10674a, 0, 0, 0, 0x3eebcf55, 0x3f1836f2,
    0x3eebcf55, 0, 0, 0, 0]

/-- Degrees 4 and 3 to degree 4. -/
def t434 : Tri where
  l1 := 4
  l2 := 3
  l := 4
  base := 16768
  words := [
    0, 0, 0, 0xbf01288d, 0xbf1e2fa3, 0xbf05b10f, 0xbe9a5fb2, 0, 0, 0x3f1e2fa3, 0x3e81288d, 0xbe6f27a6, 0xbf05b10f,
    0xbef41620, 0, 0xbf05b10f, 0x3e6f27a6, 0x3eefdd97, 0x3e34c8ba, 0xbe9fcac5, 0xbf11de9a, 0x3e9a5fb2, 0xbf05b10f,
    0xbe34c8ba, 0x3ea60f90, 0x3ed66231, 0, 0xbf11de9a, 0x3ef41620, 0xbe9fcac5, 0xbed66231, 0, 0x3ed66231,
    0x3e9fcac5, 0xbef41620, 0x3f11de9a, 0, 0xbed66231, 0xbea60f90, 0x3e34c8ba, 0x3f05b10f, 0xbe9a5fb2, 0x3f11de9a,
    0x3e9fcac5, 0xbe34c8ba, 0xbeefdd97, 0xbe6f27a6, 0x3f05b10f, 0, 0x3ef41620, 0x3f05b10f, 0x3e6f27a6, 0xbe81288d,
    0xbf1e2fa3, 0, 0, 0x3e9a5fb2, 0x3f05b10f, 0x3f1e2fa3, 0x3f01288d, 0, 0, 0]

/-- Degrees 4 and 3 to degree 5. -/
def t435 : Tri where
  l1 := 4
  l2 := 3
  l := 5
  base := 23616
  words := [
    0, 0, 0x3f19618c, 0x3f280540, 0x3f09302c, 0x3eb11bf3, 0x3e23f8a2, 0, 0xbf2b7c37, 0xbe09302c, 0x3ea80540,
    0x3f0a9c1f, 0x3f022b6e, 0x3e9ec3b4, 0x3ee086e0, 0xbee7e3ed, 0xbee955cc, 0xbd92a90b, 0x3eac0560, 0x3f0a94bb,
    0x3ee8684a, 0x3f169e00, 0xbde7e3ed, 0xbeef7ecd, 0xbeba2f17, 0x3cf7e6b5, 0x3edfa254, 0x3f10ee74, 0x3f1ec3b4,
    0x3e53af9a, 0xbe8b283f, 0xbef00780, 0xbe8b283f, 0x3e53af9a, 0x3f1ec3b4, 0x3f10ee74, 0x3edfa254, 0x3cf7e6b5,
    0xbeba2f17, 0xbeef7ecd, 0xbde7e3ed, 0x3f169e00, 0x3ee8684a, 0x3f0a94bb, 0x3eac0560, 0xbd92a90b, 0xbee955cc,
    0xbee7e3ed, 0x3ee086e0, 0x3e9ec3b4, 0x3f022b6e, 0x3f0a9c1f, 0x3ea80540, 0xbe09302c, 0xbf2b7c37, 0, 0x3e23f8a2,
    0x3eb11bf3, 0x3f09302c, 0x3f280540, 0x3f19618c, 0, 0]

/-- Degrees 4 and 4 to degree 0. -/
def t440 : Tri where
  l1 := 4
  l2 := 4
  l := 0
  base := 256
  words := [
    0, 0, 0, 0, 0, 0, 0, 0, 0x3eaaaaab, 0, 0, 0, 0, 0, 0, 0, 0xbeaaaaab, 0, 0, 0, 0, 0, 0, 0, 0x3eaaaaab, 0, 0, 0,
    0, 0, 0, 0, 0xbeaaaaab, 0, 0, 0, 0, 0, 0, 0, 0x3eaaaaab, 0, 0, 0, 0, 0, 0, 0, 0xbeaaaaab, 0, 0, 0, 0, 0, 0, 0,
    0x3eaaaaab, 0, 0, 0, 0, 0, 0, 0, 0xbeaaaaab, 0, 0, 0, 0, 0, 0, 0, 0x3eaaaaab, 0, 0, 0, 0, 0, 0, 0, 0]

/-- Degrees 4 and 4 to degree 1. -/
def t441 : Tri where
  l1 := 4
  l2 := 4
  l := 1
  base := 1728
  words := [
    0, 0, 0, 0, 0, 0, 0, 0xbe8432a5, 0xbf0432a5, 0, 0, 0, 0, 0, 0, 0x3eaee19c, 0x3ec64bf8, 0xbe8432a5, 0, 0, 0, 0,
    0, 0xbec64bf8, 0xbe8432a5, 0x3eaee19c, 0, 0, 0, 0, 0, 0x3ed105ec, 0x3e0432a5, 0xbec64bf8, 0, 0, 0, 0, 0,
    0xbed105ec, 0, 0x3ed105ec, 0, 0, 0, 0, 0, 0x3ec64bf8, 0xbe0432a5, 0xbed105ec, 0, 0, 0, 0, 0, 0xbeaee19c,
    0x3e8432a5, 0x3ec64bf8, 0, 0, 0, 0, 0, 0x3e8432a5, 0xbec64bf8, 0xbeaee19c, 0, 0, 0, 0, 0, 0, 0x3f0432a5,
    0x3e8432a5, 0, 0, 0, 0, 0, 0, 0]

/-- Degrees 4 and 4 to degree 2. -/
def t442 : Tri where
  l1 := 4
  l2 := 4
  l := 2
  base := 5184
  words := [
    0, 0, 0, 0, 0, 0, 0x3e7c1764, 0x3eebcf55, 0x3f082518, 0, 0, 0, 0, 0, 0xbebd118b, 0xbeded1c4, 0xbe082518,
    0x3eebcf55, 0, 0, 0, 0, 0x3ee1fae9, 0x3e979792, 0xbe1b981c, 0xbeded1c4, 0x3e7c1764, 0, 0, 0, 0xbeee3437,
    0xbdd50e5c, 0x3ea5519e, 0x3e979792, 0xbebd118b, 0, 0, 0, 0x3ee1fae9, 0xbdd50e5c, 0xbec27e23, 0xbdd50e5c,
    0x3ee1fae9, 0, 0, 0, 0xbebd118b, 0x3e979792, 0x3ea5519e, 0xbdd50e5c, 0xbeee3437, 0, 0, 0, 0x3e7c1764,
    0xbeded1c4, 0xbe1b981c, 0x3e979792, 0x3ee1fae9, 0, 0, 0, 0, 0x3eebcf55, 0xbe082518, 0xbeded1c4, 0xbebd118b, 0,
    0, 0, 0, 0, 0x3f082518, 0x3eebcf55, 0x3e7c1764, 0, 0, 0, 0, 0, 0]

/-- Degrees 4 and 4 to degree 3. -/
def t443 : Tri where
  l1 := 4
  l2 := 4
  l := 3
  base := 10496
  words := [
    0, 0, 0, 0, 0, 0xbe882518, 0xbeebcf55, 0xbf0b81cb, 0xbee3d062, 0, 0, 0, 0, 0x3ed74395, 0x3eebcf55, 0x3e52ea2f,
    0xbe63d062, 0xbf0b81cb, 0, 0, 0, 0xbf00a514, 0xbe8cec61, 0x3e1f6fc4, 0x3ed38aa4, 0x3e52ea2f, 0xbeebcf55, 0, 0,
    0x3f00a514, 0, 0xbebd118b, 0xbe9273ad, 0x3e1f6fc4, 0x3eebcf55, 0xbe882518, 0, 0xbed74395, 0x3e8cec61,
    0x3ebd118b, 0, 0xbebd118b, 0xbe8cec61, 0x3ed74395, 0, 0x3e882518, 0xbeebcf55, 0xbe1f6fc4, 0x3e9273ad,
    0x3ebd118b, 0, 0xbf00a514, 0, 0, 0x3eebcf55, 0xbe52ea2f, 0xbed38aa4, 0xbe1f6fc4, 0x3e8cec61, 0x3f00a514, 0, 0,
    0, 0x3f0b81cb, 0x3e63d062, 0xbe52ea2f, 0xbeebcf55, 0xbed74395, 0, 0, 0, 0, 0x3ee3d062, 0x3f0b81cb, 0x3eebcf55,
    0x3e882518, 0, 0, 0, 0, 0]

/-- Degrees 4 and 4 to degree 4. -/
def t444 : Tri where
  l1 := 4
  l2 := 4
  l := 4
  base := 17344
  words := [
    0, 0, 0, 0, 0x3ea03387, 0x3efd4cea, 0x3f0f9b9d, 0x3efd4cea, 0x3ea03387, 0, 0, 0, 0xbefd4cea, 0xbef04d4a,
    0xbe3f7a26, 0x3e3f7a26, 0x3ef04d4a, 0x3efd4cea, 0, 0, 0x3f0f9b9d, 0x3e3f7a26, 0xbe7bbeaf, 0xbed91d5b,
    0xbe7bbeaf, 0x3e3f7a26, 0x3f0f9b9d, 0, 0xbefd4cea, 0x3e3f7a26, 0x3ed91d5b, 0x3e4df91b, 0xbe4df91b, 0xbed91d5b,
    0xbe3f7a26, 0x3efd4cea, 0x3ea03387, 0xbef04d4a, 0xbe7bbeaf, 0x3e4df91b, 0x3ecdf91b, 0x3e4df91b, 0xbe7bbeaf,
    0xbef04d4a, 0x3ea03387, 0x3efd4cea, 0xbe3f7a26, 0xbed91d5b, 0xbe4df91b, 0x3e4df91b, 0x3ed91d5b, 0x3e3f7a26,
    0xbefd4cea, 0, 0x3f0f9b9d, 0x3e3f7a26, 0xbe7bbeaf, 0xbed91d5b, 0xbe7bbeaf, 0x3e3f7a26, 0x3f0f9b9d, 0, 0,
    0x3efd4cea, 0x3ef04d4a, 0x3e3f7a26, 0xbe3f7a26, 0xbef04d4a, 0xbefd4cea, 0, 0, 0, 0x3ea03387, 0x3efd4cea,
    0x3f0f9b9d, 0x3efd4cea, 0x3ea03387, 0, 0, 0, 0]

/-- Degrees 4 and 4 to degree 5. -/
def t445 : Tri where
  l1 := 4
  l2 := 4
  l := 5
  base := 24320
  words := [
    0, 0, 0, 0xbec8d2ab, 0xbf0e00d5, 0xbf15af40, 0xbf01a172, 0xbeb7534e, 0xbe3d5671, 0, 0, 0x3f169e00, 0x3ee086e0,
    0x3dbd5671, 0xbe81a172, 0xbef28448, 0xbf022b6e, 0xbeb7534e, 0, 0xbf169e00, 0, 0x3ec6039a, 0x3ed8e9de,
    0x3e37534e, 0xbe3d5671, 0xbef28448, 0xbf01a172, 0x3ec8d2ab, 0xbee086e0, 0xbec6039a, 0, 0x3eadeaf2, 0x3ed50140,
    0x3e37534e, 0xbe81a172, 0xbf15af40, 0x3f0e00d5, 0xbdbd5671, 0xbed8e9de, 0xbeadeaf2, 0, 0x3eadeaf2, 0x3ed8e9de,
    0x3dbd5671, 0xbf0e00d5, 0x3f15af40, 0x3e81a172, 0xbe37534e, 0xbed50140, 0xbeadeaf2, 0, 0x3ec6039a, 0x3ee086e0,
    0xbec8d2ab, 0x3f01a172, 0x3ef28448, 0x3e3d5671, 0xbe37534e, 0xbed8e9de, 0xbec6039a, 0, 0x3f169e00, 0,
    0x3eb7534e, 0x3f022b6e, 0x3ef28448, 0x3e81a172, 0xbdbd5671, 0xbee086e0, 0xbf169e00, 0, 0, 0x3e3d5671,
    0x3eb7534e, 0x3f01a172, 0x3f15af40, 0x3f0e00d5, 0x3ec8d2ab, 0, 0, 0]

/-- Degrees 5 and 0 to degree 5. -/
def t505 : Tri where
  l1 := 5
  l2 := 0
  l := 5
  base := 25024
  words := [
    0x3f800000, 0x3f800000, 0x3f800000, 0x3f800000, 0x3f800000, 0x3f800000, 0x3f800000, 0x3f800000, 0x3f800000,
    0x3f800000, 0x3f800000]

/-- Degrees 5 and 1 to degree 4. -/
def t514 : Tri where
  l1 := 5
  l2 := 1
  l := 4
  base := 17920
  words := [
    0, 0, 0x3f678f8b, 0, 0xbecf1d3c, 0x3f4f1d3c, 0x3e0a137d, 0xbf0a137d, 0x3f36a855, 0x3e6f27a6, 0xbf1e2fa3,
    0x3f1e2fa3, 0x3ea91ba8, 0xbf291ba8, 0x3f05b10f, 0x3eda514a, 0xbf2c985d, 0x3eda514a, 0x3f05b10f, 0xbf291ba8,
    0x3ea91ba8, 0x3f1e2fa3, 0xbf1e2fa3, 0x3e6f27a6, 0x3f36a855, 0xbf0a137d, 0x3e0a137d, 0x3f4f1d3c, 0xbecf1d3c, 0,
    0x3f678f8b, 0, 0]

/-- Degrees 5 and 1 to degree 5. -/
def t515 : Tri where
  l1 := 5
  l2 := 1
  l := 5
  base := 25728
  words := [
    0, 0xbf69b1e9, 0xbed105ec, 0x3ed105ec, 0xbf3af4ba, 0xbf0c378c, 0x3f0c378c, 0xbf0c378c, 0xbf21e89b, 0x3f21e89b,
    0xbebaf4ba, 0xbf2ee19c, 0x3f2ee19c, 0xbe3af4ba, 0xbf3504f3, 0x3f3504f3, 0, 0xbf3504f3, 0x3f3504f3, 0x3e3af4ba,
    0xbf2ee19c, 0x3f2ee19c, 0x3ebaf4ba, 0xbf21e89b, 0x3f21e89b, 0x3f0c378c, 0xbf0c378c, 0x3f0c378c, 0x3f3af4ba,
    0xbed105ec, 0x3ed105ec, 0x3f69b1e9, 0]

/-- Degrees 5 and 2 to degree 3. -/
def t523 : Tri where
  l1 := 5
  l2 := 2
  l := 3
  base := 10944
  words := [
    0, 0, 0, 0, 0x3f4c37a4, 0, 0, 0, 0xbf01288d, 0x3f1e2fa3, 0, 0, 0x3e9523a7, 0xbf1523a7, 0x3eebcf55, 0,
    0xbe1523a7, 0x3edfb57b, 0xbf10674a, 0x3ea6be26, 0x3d617a36, 0xbe8a137d, 0x3f05b10f, 0xbefc1764, 0x3e5a514a,
    0x3dfc1764, 0xbec74bb5, 0x3f0cec61, 0xbec74bb5, 0x3dfc1764, 0x3e5a514a, 0xbefc1764, 0x3f05b10f, 0xbe8a137d,
    0x3d617a36, 0x3ea6be26, 0xbf10674a, 0x3edfb57b, 0xbe1523a7, 0, 0x3eebcf55, 0xbf1523a7, 0x3e9523a7, 0, 0,
    0x3f1e2fa3, 0xbf01288d, 0, 0, 0, 0x3f4c37a4, 0, 0, 0, 0]

/-- Degrees 5 and 2 to degree 4. -/
def t524 : Tri where
  l1 := 5
  l2 := 2
  l := 4
  base := 18496
  words := [
    0, 0, 0, 0xbf3d118b, 0xbf05b10f, 0, 0, 0x3f1273ad, 0xbea91ba8, 0xbf1e2fa3, 0, 0xbea91ba8, 0x3f1273ad, 0,
    0xbf1e2fa3, 0x3e0a137d, 0xbef41620, 0x3edfb57b, 0x3e81288d, 0xbf10674a, 0x3e81288d, 0xbf0a137d, 0x3e6f27a6,
    0x3eda514a, 0xbef41620, 0x3ebd118b, 0xbf05b10f, 0, 0x3f05b10f, 0xbebd118b, 0x3ef41620, 0xbeda514a, 0xbe6f27a6,
    0x3f0a137d, 0xbe81288d, 0x3f10674a, 0xbe81288d, 0xbedfb57b, 0x3ef41620, 0xbe0a137d, 0x3f1e2fa3, 0, 0xbf1273ad,
    0x3ea91ba8, 0, 0x3f1e2fa3, 0x3ea91ba8, 0xbf1273ad, 0, 0, 0x3f05b10f, 0x3f3d118b, 0, 0, 0]

/-- Degrees 5 and 2 to degree 5. -/
def t525 : Tri where
  l1 := 5
  l2 := 2
  l := 5
  base := 26432
  words := [
    0, 0, 0x3f42722a, 0x3f169e00, 0x3e8e00d5, 0, 0xbf169e00, 0x3e9b8e88, 0x3f1d2b36, 0x3edbfd91, 0x3e8e00d5,
    0xbf1d2b36, 0xbd4f68b6, 0x3f01a172, 0x3f09302c, 0x3edbfd91, 0xbf01a172, 0xbe9b8e88, 0x3ea80540, 0x3f19618c,
    0x3f09302c, 0xbea80540, 0xbee955cc, 0x3de7e3ed, 0x3f1ec3b4, 0x3f19618c, 0xbde7e3ed, 0xbf01a172, 0xbde7e3ed,
    0x3f19618c, 0x3f1ec3b4, 0x3de7e3ed, 0xbee955cc, 0xbea80540, 0x3f09302c, 0x3f19618c, 0x3ea80540, 0xbe9b8e88,
    0xbf01a172, 0x3edbfd91, 0x3f09302c, 0x3f01a172, 0xbd4f68b6, 0xbf1d2b36, 0x3e8e00d5, 0x3edbfd91, 0x3f1d2b36,
    0x3e9b8e88, 0xbf169e00, 0, 0x3e8e00d5, 0x3f169e00, 0x3f42722a, 0, 0]

/-- Degrees 5 and 3 to degree 2. -/
def t532 : Tri where
  l1 := 5
  l2 := 3
  l := 2
  base := 5504
  words := [
    0, 0, 0, 0, 0, 0, 0x3f2c985d, 0, 0, 0, 0, 0, 0xbf05b10f, 0x3eda514a, 0, 0, 0, 0, 0x3ec74bb5, 0xbefc1764,
    0x3e7c1764, 0, 0, 0, 0xbe8cec61, 0x3ef41620, 0xbebd118b, 0x3dfc1764, 0, 0, 0x3e388312, 0xbed50e5c, 0x3ee1fae9,
    0xbe69642a, 0x3d3e902c, 0, 0xbdd50e5c, 0x3ea86f86, 0xbeee3437, 0x3ea86f86, 0xbdd50e5c, 0, 0x3d3e902c,
    0xbe69642a, 0x3ee1fae9, 0xbed50e5c, 0x3e388312, 0, 0, 0x3dfc1764, 0xbebd118b, 0x3ef41620, 0xbe8cec61, 0, 0, 0,
    0x3e7c1764, 0xbefc1764, 0x3ec74bb5, 0, 0, 0, 0, 0x3eda514a, 0xbf05b10f, 0, 0, 0, 0, 0, 0x3f2c985d, 0, 0, 0, 0,
    0, 0]

/-- Degrees 5 and 3 to degree 3. -/
def t533 : Tri where
  l1 := 5
  l2 := 3
  l := 3
  base := 11392
  words := [
    0, 0, 0, 0, 0, 0xbf10674a, 0xbf10674a, 0, 0, 0, 0, 0x3f10674a, 0, 0xbf10674a, 0, 0, 0, 0xbeebcf55, 0x3ea6be26,
    0x3ea6be26, 0xbeebcf55, 0, 0, 0x3ea6be26, 0xbeebcf55, 0, 0x3eebcf55, 0xbea6be26, 0, 0xbe474bb5, 0x3ee78f8b,
    0xbe8cec61, 0xbe8cec61, 0x3ee78f8b, 0xbe474bb5, 0x3db2416a, 0xbeb2416a, 0x3eded1c4, 0, 0xbeded1c4, 0x3eb2416a,
    0xbdb2416a, 0x3e474bb5, 0xbee78f8b, 0x3e8cec61, 0x3e8cec61, 0xbee78f8b, 0x3e474bb5, 0, 0x3ea6be26, 0xbeebcf55,
    0, 0x3eebcf55, 0xbea6be26, 0, 0, 0x3eebcf55, 0xbea6be26, 0xbea6be26, 0x3eebcf55, 0, 0, 0, 0x3f10674a, 0,
    0xbf10674a, 0, 0, 0, 0, 0x3f10674a, 0x3f10674a, 0, 0, 0, 0, 0]

/-- Degrees 5 and 3 to degree 4. -/
def t534 : Tri where
  l1 := 5
  l2 := 3
  l := 4
  base := 19072
  words := [
    0, 0, 0, 0, 0x3f0abd06, 0x3f1b1d3d, 0x3ecb1799, 0, 0, 0, 0xbf17faf3, 0xbdf82ec8, 0x3ed1c0b1, 0x3f083d06, 0, 0,
    0x3ef82ec8, 0xbe97faf3, 0xbed30f41, 0x3dd1c0b1, 0x3f0f9b9d, 0, 0xbea03387, 0x3efac131, 0x3d84a8c5, 0xbed8a1b4,
    0xbe3f7a26, 0x3f03186f, 0x3e14514b, 0xbeeb7c5a, 0x3e9b994e, 0x3ea868e3, 0xbe7bbeaf, 0xbeca48df, 0x3ed2386b,
    0x3e8f9b9d, 0xbefab3d2, 0x3ce03c2e, 0x3ed91d5b, 0x3ce03c2e, 0xbefab3d2, 0x3e8f9b9d, 0x3ed2386b, 0xbeca48df,
    0xbe7bbeaf, 0x3ea868e3, 0x3e9b994e, 0xbeeb7c5a, 0x3e14514b, 0x3f03186f, 0xbe3f7a26, 0xbed8a1b4, 0x3d84a8c5,
    0x3efac131, 0xbea03387, 0, 0x3f0f9b9d, 0x3dd1c0b1, 0xbed30f41, 0xbe97faf3, 0x3ef82ec8, 0, 0, 0x3f083d06,
    0x3ed1c0b1, 0xbdf82ec8, 0xbf17faf3, 0, 0, 0, 0x3ecb1799, 0x3f1b1d3d, 0x3f0abd06, 0, 0, 0, 0]

/-- Degrees 5 and 3 to degree 5. -/
def t535 : Tri where
  l1 := 5
  l2 := 3
  l := 5
  base := 27136
  words := [
    0, 0, 0, 0xbf12fcc2, 0xbf21043d, 0xbef00780, 0xbe700780, 0, 0, 0x3f21043d, 0x3deb2e02, 0xbec00600, 0xbf0b71c6,
    0xbec8d2ab, 0, 0xbef00780, 0x3ec00600, 0x3ed794d8, 0xbcddbac5, 0xbee7e3ed, 0xbf01a172, 0x3e700780, 0xbf0b71c6,
    0x3cddbac5, 0x3ee1616d, 0x3e86b753, 0xbe81a172, 0xbf10ee74, 0x3ec8d2ab, 0xbee7e3ed, 0xbe86b753, 0x3e89302c,
    0x3ed8e9de, 0, 0xbf10ee74, 0x3f01a172, 0xbe81a172, 0xbed8e9de, 0, 0x3ed8e9de, 0x3e81a172, 0xbf01a172,
    0x3f10ee74, 0, 0xbed8e9de, 0xbe89302c, 0x3e86b753, 0x3ee7e3ed, 0xbec8d2ab, 0x3f10ee74, 0x3e81a172, 0xbe86b753,
    0xbee1616d, 0xbcddbac5, 0x3f0b71c6, 0xbe700780, 0x3f01a172, 0x3ee7e3ed, 0x3cddbac5, 0xbed794d8, 0xbec00600,
    0x3ef00780, 0, 0x3ec8d2ab, 0x3f0b71c6, 0x3ec00600, 0xbdeb2e02, 0xbf21043d, 0, 0, 0x3e700780, 0x3ef00780,
    0x3f21043d, 0x3f12fcc2, 0, 0, 0]

/-- Degrees 5 and 4 to degree 1. -/
def t541 : Tri where
  l1 := 5
  l2 := 4
  l := 1
  base := 1920
  words := [
    0, 0, 0, 0, 0, 0, 0, 0, 0x3f05b10f, 0, 0, 0, 0, 0, 0, 0, 0xbeef27a6, 0x3e6f27a6, 0, 0, 0, 0, 0, 0, 0x3ed2ea2f,
    0xbe9f6fc4, 0x3d9f6fc4, 0, 0, 0, 0, 0, 0xbeb6a855, 0x3eb6a855, 0xbe0a137d, 0, 0, 0, 0, 0, 0x3e9a5fb2,
    0xbec344e6, 0x3e4344e6, 0, 0, 0, 0, 0, 0xbe7c1764, 0x3ec74bb5, 0xbe7c1764, 0, 0, 0, 0, 0, 0x3e4344e6,
    0xbec344e6, 0x3e9a5fb2, 0, 0, 0, 0, 0, 0xbe0a137d, 0x3eb6a855, 0xbeb6a855, 0, 0, 0, 0, 0, 0x3d9f6fc4,
    0xbe9f6fc4, 0x3ed2ea2f, 0, 0, 0, 0, 0, 0, 0x3e6f27a6, 0xbeef27a6, 0, 0, 0, 0, 0, 0, 0, 0x3f05b10f, 0, 0, 0, 0,
    0, 0, 0, 0]

/-- Degrees 5 and 4 to degree 2. -/
def t542 : Tri where
  l1 := 5
  l2 := 4
  l := 2
  base := 5824
  words := [
    0, 0, 0, 0, 0, 0, 0, 0xbec74bb5, 0xbf0cec61, 0, 0, 0, 0, 0, 0, 0x3eebcf55, 0x3e7c1764, 0xbeda514a, 0, 0, 0, 0,
    0, 0xbeebcf55, 0, 0x3eda514a, 0xbe7c1764, 0, 0, 0, 0, 0x3ed74395, 0xbe4089b8, 0xbea6be26, 0x3eb5ee68,
    0xbdcdd4ed, 0, 0, 0, 0xbeb5ee68, 0x3ea2b96b, 0x3e32416a, 0xbecdd4ed, 0x3e4089b8, 0, 0, 0, 0x3e8cec61,
    0xbec74bb5, 0, 0x3ec74bb5, 0xbe8cec61, 0, 0, 0, 0xbe4089b8, 0x3ecdd4ed, 0xbe32416a, 0xbea2b96b, 0x3eb5ee68, 0,
    0, 0, 0x3dcdd4ed, 0xbeb5ee68, 0x3ea6be26, 0x3e4089b8, 0xbed74395, 0, 0, 0, 0, 0x3e7c1764, 0xbeda514a, 0,
    0x3eebcf55, 0, 0, 0, 0, 0, 0x3eda514a, 0xbe7c1764, 0xbeebcf55, 0, 0, 0, 0, 0, 0, 0x3f0cec61, 0x3ec74bb5, 0, 0,
    0, 0, 0, 0, 0]

/-- Degrees 5 and 4 to degree 3. -/
def t543 : Tri where
  l1 := 5
  l2 := 4
  l := 3
  base := 11840
  words := [
    0, 0, 0, 0, 0, 0, 0x3eb31c48, 0x3f08cc42, 0x3ef4b624, 0, 0, 0, 0, 0, 0xbef04d4a, 0xbeb8fc08, 0x3ddae069,
    0x3f0608b4, 0, 0, 0, 0, 0x3efd4cea, 0x3db8fc08, 0xbeba2316, 0xbe8608b4, 0x3edae069, 0, 0, 0, 0xbee73b0a,
    0x3e28ddf2, 0x3ebf0d19, 0xbd69fd2b, 0xbedd2513, 0x3e8d48c4, 0, 0, 0x3eb9659e, 0xbeb265f7, 0xbe5e04a2,
    0x3e9485fe, 0x3e8939ac, 0xbecfadcd, 0x3e02cdc5, 0, 0xbe7d4cea, 0x3edd1948, 0xbcc5c1ba, 0xbebf7a26, 0xbcc5c1ba,
    0x3edd1948, 0xbe7d4cea, 0, 0x3e02cdc5, 0xbecfadcd, 0x3e8939ac, 0x3e9485fe, 0xbe5e04a2, 0xbeb265f7, 0x3eb9659e,
    0, 0, 0x3e8d48c4, 0xbedd2513, 0xbd69fd2b, 0x3ebf0d19, 0x3e28ddf2, 0xbee73b0a, 0, 0, 0, 0x3edae069, 0xbe8608b4,
    0xbeba2316, 0x3db8fc08, 0x3efd4cea, 0, 0, 0, 0, 0x3f0608b4, 0x3ddae069, 0xbeb8fc08, 0xbef04d4a, 0, 0, 0, 0, 0,
    0x3ef4b624, 0x3f08cc42, 0x3eb31c48, 0, 0, 0, 0, 0, 0]

/-- Degrees 5 and 4 to degree 4. -/
def t544 : Tri where
  l1 := 5
  l2 := 4
  l := 4
  base := 19648
  words := [
    0, 0, 0, 0, 0, 0xbeb5a6b3, 0xbf083d06, 0xbf083d06, 0xbeb5a6b3, 0, 0, 0, 0, 0x3f007260, 0x3ecb1799, 0,
    0xbecb1799, 0xbf007260, 0, 0, 0, 0xbf076511, 0xbdab432a, 0x3eb31c48, 0x3eb31c48, 0xbdab432a, 0xbf076511, 0, 0,
    0x3eea82ba, 0xbe6a82ba, 0xbec434a8, 0, 0x3ec434a8, 0x3e6a82ba, 0xbeea82ba, 0, 0xbea5d2f6, 0x3edb5d58,
    0x3e25d2f6, 0xbe9d5085, 0xbe9d5085, 0x3e25d2f6, 0x3edb5d58, 0xbea5d2f6, 0x3e2b432a, 0xbeeb7c5a, 0x3e2b432a,
    0x3ec0ab90, 0, 0xbec0ab90, 0xbe2b432a, 0x3eeb7c5a, 0xbe2b432a, 0x3ea5d2f6, 0xbedb5d58, 0xbe25d2f6, 0x3e9d5085,
    0x3e9d5085, 0xbe25d2f6, 0xbedb5d58, 0x3ea5d2f6, 0, 0x3eea82ba, 0xbe6a82ba, 0xbec434a8, 0, 0x3ec434a8,
    0x3e6a82ba, 0xbeea82ba, 0, 0, 0x3f076511, 0x3dab432a, 0xbeb31c48, 0xbeb31c48, 0x3dab432a, 0x3f076511, 0, 0, 0,
    0x3f007260, 0x3ecb1799, 0, 0xbecb1799, 0xbf007260, 0, 0, 0, 0, 0x3eb5a6b3, 0x3f083d06, 0x3f083d06, 0x3eb5a6b3,
    0, 0, 0, 0, 0]

/-- Degrees 5 and 4 to degree 5. -/
def t545 : Tri where
  l1 := 5
  l2 := 4
  l := 5
  base := 27840
  words := [
    0, 0, 0, 0, 0x3ec8d2ab, 0x3f0e00d5, 0x3f0e00d5, 0x3ed8e9de, 0x3e67e3ed, 0, 0, 0, 0xbf0e00d5, 0xbec8d2ab, 0,
    0x3eb7534e, 0x3f01a172, 0x3ec8d2ab, 0, 0, 0x3f0e00d5, 0, 0xbec8d2ab, 0xbeb7534e, 0, 0x3ec8d2ab, 0x3f01a172, 0,
    0xbed8e9de, 0x3eb7534e, 0x3eb7534e, 0xbd85e1c7, 0xbec6039a, 0xbe99618c, 0x3e15af40, 0x3f0c0460, 0x3e67e3ed,
    0xbf01a172, 0, 0x3ec6039a, 0x3e85e1c7, 0xbe23f8a2, 0xbed3af9a, 0xbe15af40, 0x3f01a172, 0x3ec8d2ab, 0xbec8d2ab,
    0xbe99618c, 0x3e23f8a2, 0x3ec8d2ab, 0x3e23f8a2, 0xbe99618c, 0xbec8d2ab, 0x3ec8d2ab, 0x3f01a172, 0xbe15af40,
    0xbed3af9a, 0xbe23f8a2, 0x3e85e1c7, 0x3ec6039a, 0, 0xbf01a172, 0x3e67e3ed, 0x3f0c0460, 0x3e15af40, 0xbe99618c,
    0xbec6039a, 0xbd85e1c7, 0x3eb7534e, 0x3eb7534e, 0xbed8e9de, 0, 0x3f01a172, 0x3ec8d2ab, 0, 0xbeb7534e,
    0xbec8d2ab, 0, 0x3f0e00d5, 0, 0, 0x3ec8d2ab, 0x3f01a172, 0x3eb7534e, 0, 0xbec8d2ab, 0xbf0e00d5, 0, 0, 0,
    0x3e67e3ed, 0x3ed8e9de, 0x3f0e00d5, 0x3f0e00d5, 0x3ec8d2ab, 0, 0, 0, 0]

/-- Degrees 5 and 5 to degree 0. -/
def t550 : Tri where
  l1 := 5
  l2 := 5
  l := 0
  base := 320
  words := [
    0, 0, 0, 0, 0, 0, 0, 0, 0, 0, 0x3e9a5fb2, 0, 0, 0, 0, 0, 0, 0, 0, 0, 0xbe9a5fb2, 0, 0, 0, 0, 0, 0, 0, 0, 0,
    0x3e9a5fb2, 0, 0, 0, 0, 0, 0, 0, 0, 0, 0xbe9a5fb2, 0, 0, 0, 0, 0, 0, 0, 0, 0, 0x3e9a5fb2, 0, 0, 0, 0, 0, 0, 0,
    0, 0, 0xbe9a5fb2, 0, 0, 0, 0, 0, 0, 0, 0, 0, 0x3e9a5fb2, 0, 0, 0, 0, 0, 0, 0, 0, 0, 0xbe9a5fb2, 0, 0, 0, 0, 0,
    0, 0, 0, 0, 0x3e9a5fb2, 0, 0, 0, 0, 0, 0, 0, 0, 0, 0xbe9a5fb2, 0, 0, 0, 0, 0, 0, 0, 0, 0, 0x3e9a5fb2, 0, 0, 0,
    0, 0, 0, 0, 0, 0, 0]

/-- Degrees 5 and 5 to degree 1. -/
def t551 : Tri where
  l1 := 5
  l2 := 5
  l := 1
  base := 2112
  words := [
    0, 0, 0, 0, 0, 0, 0, 0, 0, 0xbe5a514a, 0xbef41620, 0, 0, 0, 0, 0, 0, 0, 0, 0x3e9273ad, 0x3ec344e6, 0xbe5a514a,
    0, 0, 0, 0, 0, 0, 0, 0xbea91ba8, 0xbe9273ad, 0x3e9273ad, 0, 0, 0, 0, 0, 0, 0, 0x3eb6a855, 0x3e4344e6,
    0xbea91ba8, 0, 0, 0, 0, 0, 0, 0, 0xbebd118b, 0xbdc344e6, 0x3eb6a855, 0, 0, 0, 0, 0, 0, 0, 0x3ebd118b, 0,
    0xbebd118b, 0, 0, 0, 0, 0, 0, 0, 0xbeb6a855, 0x3dc344e6, 0x3ebd118b, 0, 0, 0, 0, 0, 0, 0, 0x3ea91ba8,
    0xbe4344e6, 0xbeb6a855, 0, 0, 0, 0, 0, 0, 0, 0xbe9273ad, 0x3e9273ad, 0x3ea91ba8, 0, 0, 0, 0, 0, 0, 0,
    0x3e5a514a, 0xbec344e6, 0xbe9273ad, 0, 0, 0, 0, 0, 0, 0, 0, 0x3ef41620, 0x3e5a514a, 0, 0, 0, 0, 0, 0, 0, 0, 0]

/-- Degrees 5 and 5 to degree 2. -/
def t552 : Tri where
  l1 := 5
  l2 := 5
  l := 2
  base := 6144
  words := [
    0, 0, 0, 0, 0, 0, 0, 0, 0x3e3f7a26, 0x3ecb1799, 0x3f03186f, 0, 0, 0, 0, 0, 0, 0, 0xbe94514b, 0xbed3ed26,
    0xbe51c0b1, 0x3ecb1799, 0, 0, 0, 0, 0, 0, 0x3eb8fc08, 0x3eaecb3e, 0xbd0bd5cb, 0xbed3ed26, 0x3e3f7a26, 0, 0, 0,
    0, 0, 0xbeced1a7, 0xbe628f0e, 0x3e51c0b1, 0x3eaecb3e, 0xbe94514b, 0, 0, 0, 0, 0, 0x3ed613f5, 0x3d9c5727,
    0xbe9d5085, 0xbe628f0e, 0x3eb8fc08, 0, 0, 0, 0, 0, 0xbeced1a7, 0x3d9c5727, 0x3eaecb3e, 0x3d9c5727, 0xbeced1a7,
    0, 0, 0, 0, 0, 0x3eb8fc08, 0xbe628f0e, 0xbe9d5085, 0x3d9c5727, 0x3ed613f5, 0, 0, 0, 0, 0, 0xbe94514b,
    0x3eaecb3e, 0x3e51c0b1, 0xbe628f0e, 0xbeced1a7, 0, 0, 0, 0, 0, 0x3e3f7a26, 0xbed3ed26, 0xbd0bd5cb, 0x3eaecb3e,
    0x3eb8fc08, 0, 0, 0, 0, 0, 0, 0x3ecb1799, 0xbe51c0b1, 0xbed3ed26, 0xbe94514b, 0, 0, 0, 0, 0, 0, 0, 0x3f03186f,
    0x3ecb1799, 0x3e3f7a26, 0, 0, 0, 0, 0, 0, 0, 0]

/-- Degrees 5 and 5 to degree 3. -/
def t553 : Tri where
  l1 := 5
  l2 := 5
  l := 3
  base := 12288
  words := [
    0, 0, 0, 0, 0, 0, 0, 0xbe3f7a26, 0xbebf7a26, 0xbf007260, 0xbeea82ba, 0, 0, 0, 0, 0, 0, 0x3ea03387, 0x3ede79f1,
    0x3e992e85, 0xbdbb9bc8, 0xbf007260, 0, 0, 0, 0, 0, 0xbeced1a7, 0xbeb8fc08, 0xbcb0e107, 0x3eabf977, 0x3e992e85,
    0xbebf7a26, 0, 0, 0, 0, 0x3ee73b0a, 0x3e4ed1a7, 0xbe56eebc, 0xbeb3caa0, 0xbcb0e107, 0x3ede79f1, 0xbe3f7a26, 0,
    0, 0, 0xbee73b0a, 0, 0x3ead0983, 0x3e5ae069, 0xbe56eebc, 0xbeb8fc08, 0x3ea03387, 0, 0, 0, 0x3eced1a7,
    0xbe4ed1a7, 0xbead0983, 0, 0x3ead0983, 0x3e4ed1a7, 0xbeced1a7, 0, 0, 0, 0xbea03387, 0x3eb8fc08, 0x3e56eebc,
    0xbe5ae069, 0xbead0983, 0, 0x3ee73b0a, 0, 0, 0, 0x3e3f7a26, 0xbede79f1, 0x3cb0e107, 0x3eb3caa0, 0x3e56eebc,
    0xbe4ed1a7, 0xbee73b0a, 0, 0, 0, 0, 0x3ebf7a26, 0xbe992e85, 0xbeabf977, 0x3cb0e107, 0x3eb8fc08, 0x3eced1a7, 0,
    0, 0, 0, 0, 0x3f007260, 0x3dbb9bc8, 0xbe992e85, 0xbede79f1, 0xbea03387, 0, 0, 0, 0, 0, 0, 0x3eea82ba,
    0x3f007260, 0x3ebf7a26, 0x3e3f7a26, 0, 0, 0, 0, 0, 0, 0]

/-- Degrees 5 and 5 to degree 4. -/
def t554 : Tri where
  l1 := 5
  l2 := 5
  l := 4
  base := 20224
  words := [
    0, 0, 0, 0, 0, 0, 0x3e51c0b1, 0x3ec434a8, 0x3f007260, 0x3f007260, 0x3eb5a6b3, 0, 0, 0, 0, 0, 0xbeb5a6b3,
    0xbeea82ba, 0xbea5d2f6, 0, 0x3eb5a6b3, 0x3f007260, 0, 0, 0, 0, 0x3eea82ba, 0x3eb5a6b3, 0, 0xbea5d2f6,
    0xbeb5a6b3, 0, 0x3f007260, 0, 0, 0, 0xbefd4cea, 0xbe076511, 0x3e8abd06, 0x3eb31c48, 0x3d723399, 0xbea5d2f6,
    0xbea5d2f6, 0x3ec434a8, 0, 0, 0x3eea82ba, 0xbe076511, 0xbebf7a26, 0xbe14514b, 0x3e723399, 0x3eb31c48, 0,
    0xbeea82ba, 0x3e51c0b1, 0, 0xbeb5a6b3, 0x3eb5a6b3, 0x3e8abd06, 0xbe14514b, 0xbeb5a6b3, 0xbe14514b, 0x3e8abd06,
    0x3eb5a6b3, 0xbeb5a6b3, 0, 0x3e51c0b1, 0xbeea82ba, 0, 0x3eb31c48, 0x3e723399, 0xbe14514b, 0xbebf7a26,
    0xbe076511, 0x3eea82ba, 0, 0, 0x3ec434a8, 0xbea5d2f6, 0xbea5d2f6, 0x3d723399, 0x3eb31c48, 0x3e8abd06,
    0xbe076511, 0xbefd4cea, 0, 0, 0, 0x3f007260, 0, 0xbeb5a6b3, 0xbea5d2f6, 0, 0x3eb5a6b3, 0x3eea82ba, 0, 0, 0, 0,
    0x3f007260, 0x3eb5a6b3, 0, 0xbea5d2f6, 0xbeea82ba, 0xbeb5a6b3, 0, 0, 0, 0, 0, 0x3eb5a6b3, 0x3f007260,
    0x3f007260, 0x3ec434a8, 0x3e51c0b1, 0, 0, 0, 0, 0, 0]

/-- Degrees 5 and 5 to degree 5. -/
def t555 : Tri where
  l1 := 5
  l2 := 5
  l := 5
  base := 28544
  words := [
    0, 0, 0, 0, 0, 0xbe75f4f4, 0xbed50140, 0xbf04d4f6, 0xbf04d4f6, 0xbed50140, 0xbe75f4f4, 0, 0, 0, 0, 0x3ed50140,
    0x3ef5f4f4, 0x3e9ec3b4, 0, 0xbe9ec3b4, 0xbef5f4f4, 0xbed50140, 0, 0, 0, 0xbf04d4f6, 0xbe9ec3b4, 0x3da3f8a2,
    0x3eb7534e, 0x3eb7534e, 0x3da3f8a2, 0xbe9ec3b4, 0xbf04d4f6, 0, 0, 0x3f04d4f6, 0, 0xbeb7534e, 0xbea3f8a2, 0,
    0x3ea3f8a2, 0x3eb7534e, 0, 0xbf04d4f6, 0, 0xbed50140, 0x3e9ec3b4, 0x3eb7534e, 0, 0xbea3f8a2, 0xbea3f8a2, 0,
    0x3eb7534e, 0x3e9ec3b4, 0xbed50140, 0x3e75f4f4, 0xbef5f4f4, 0xbda3f8a2, 0x3ea3f8a2, 0x3ea3f8a2, 0, 0xbea3f8a2,
    0xbea3f8a2, 0x3da3f8a2, 0x3ef5f4f4, 0xbe75f4f4, 0x3ed50140, 0xbe9ec3b4, 0xbeb7534e, 0, 0x3ea3f8a2, 0x3ea3f8a2,
    0, 0xbeb7534e, 0xbe9ec3b4, 0x3ed50140, 0, 0x3f04d4f6, 0, 0xbeb7534e, 0xbea3f8a2, 0, 0x3ea3f8a2, 0x3eb7534e, 0,
    0xbf04d4f6, 0, 0, 0x3f04d4f6, 0x3e9ec3b4, 0xbda3f8a2, 0xbeb7534e, 0xbeb7534e, 0xbda3f8a2, 0x3e9ec3b4,
    0x3f04d4f6, 0, 0, 0, 0x3ed50140, 0x3ef5f4f4, 0x3e9ec3b4, 0, 0xbe9ec3b4, 0xbef5f4f4, 0xbed50140, 0, 0, 0, 0,
    0x3e75f4f4, 0x3ed50140, 0x3f04d4f6, 0x3f04d4f6, 0x3ed50140, 0x3e75f4f4, 0, 0, 0, 0, 0]

/-- The triples in the order of the stores. -/
def plan : List Tri :=
  [t000, t101, t110, t111, t112, t202, t211, t212, t213, t220, t221, t222, t223, t224, t303, t312, t313, t314,
   t321, t322, t323, t324, t325, t330, t331, t332, t333, t334, t335, t404, t413, t414, t415, t422, t423, t424,
   t425, t431, t432, t433, t434, t435, t440, t441, t442, t443, t444, t445, t505, t514, t515, t523, t524, t525,
   t532, t533, t534, t535, t541, t542, t543, t544, t545, t550, t551, t552, t553, t554, t555]

end Cert.CG
-- ==== Proof.KernelBody.lean ====
/- The printed kernel is the body written once, at the plan's triples. -/
module

public import proofs.«01_k».proof.Kernel
public import proofs.«01_k».proof.Proof.Plan

@[expose] public section

noncomputable section

namespace Cert.Kernel.Launched

open Idealize.ShloMosaic Idealize.SL.Sem Cert.CG

set_option maxHeartbeats 0 in
set_option maxRecDepth 1000000 in
/-- The printed kernel loads both parts and stores the triples' blocks, one after the other, as the plan lists them. -/
theorem body_eq : @cc0__cg_kernel = fun {F : FTy → Type} [FloatOps F] [Facts] _ arg1 _ arg2 _ arg3 _ =>
    body (F := F) plan arg1 arg2 arg3 := by eq_refl

end Cert.Kernel.Launched

end
-- ==== Proof.Stores.lean ====
/- Running the body: from the two loaded blocks whole and an output block with anything in it, the body ends with every
   triple's block written, and the triples' columns cover the output block. -/
module

public import proofs.«01_k».proof.Proof.Plan
public import Idealize.ShloMosaic.Lib.Pipeline.FrameBody
public import Idealize.ShloMosaic.Lib.Pipeline.Value
public import Idealize.ShloMosaic.Lib.Tactic

@[expose] public section

noncomputable section

namespace Cert.CG

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The blocks the triples store, each with its columns, the last stored first. -/
def pieces (vr vi : FVec F ⟨2, ![288, 128]⟩ .f32) (Ts : List Tri) : List (View.Piece (Elt F) ⟨2, ![128, 58496]⟩ .f32) :=
  (Ts.map fun T => (⟨T.rect, T.block vr vi⟩ : View.Piece (Elt F) ⟨2, ![128, 58496]⟩ .f32)).reverse

/-- Every column of the output block is some triple's. -/
theorem plan_covers : ∀ k : Fin 457, ∃ T ∈ plan, 2 * T.base ≤ 128 * k.val ∧ 128 * k.val + 128 ≤ 2 * T.base + 128 * (2 * T.l + 1) := by
  decide +kernel

/-- A column's triple. -/
theorem exists_tri (k : ℕ) (hk : k < 58496) : ∃ T ∈ plan, 2 * T.base ≤ k ∧ k < 2 * T.base + 128 * (2 * T.l + 1) := by
  obtain ⟨T, hT, h1, h2⟩ := plan_covers ⟨k / 128, by omega⟩
  exact ⟨T, hT, by simp only at h1; omega, by simp only at h2; omega⟩

/-- A column in a triple's range is in its rectangle. -/
theorem mem_rect (T : Tri) (y : (⟨2, ![128, 58496]⟩ : Shape).Idx) (h1 : 2 * T.base ≤ (y 1).val)
    (h2 : (y 1).val < 2 * T.base + 128 * (2 * T.l + 1)) : y ∈ T.rect.set := by
  refine (Rect.mem_set_unit (inb := T.inb)).2 fun a => ?_
  match a with
  | 0 => exact ⟨Nat.zero_le _, by have := (y 0).isLt; simpa using this⟩
  | 1 => exact ⟨h1, h2⟩

/-- The blocks of all triples cover the output block. -/
theorem pieces_cover (vr vi : FVec F ⟨2, ![288, 128]⟩ .f32) (y : (⟨2, ![128, 58496]⟩ : Shape).Idx) :
    ∃ p ∈ pieces vr vi plan, y ∈ p.1.set := by
  obtain ⟨T, hT, h1, h2⟩ := exists_tri (y 1).val (y 1).isLt
  exact ⟨⟨T.rect, T.block vr vi⟩, List.mem_reverse.2 (List.mem_map.2 ⟨T, hT, rfl⟩), mem_rect T y h1 h2⟩

variable {nD : ℕ} {τ : Topo} {sig : RefSig} {Λ : Labels}

local notation "𝕄" => MT nD τ sig Unit (Elt F) ℕ (UR sig nD τ) ℕ

/-- A load, its buffer's elements held. -/
theorem wp_load_held (defs : Defs nD τ sig (Elt F) Λ) (𝒱 : Variants) (c : Dev nD) (E : Set ℕ) {s : Shape}
    (arg : Memref sig .tc .vmem s .f32) (r : Rect s) (hl : arg.view.LoadsAt r.toLoadRect)
    (k : (r.toLoadRect.shape.Idx → Elt F .f32) → Prog (TpuEff nD τ sig (Elt F) Λ .tc) PUnit) (K : PUnit → sProp 𝕄)
    (f : Buf (Elt F) (arg.view.loc (c : Thread nD τ))) :
    (arg.view.loc (c : Thread nD τ) ↦[arg.view.set]{fullShare} f)
      ⊢ iprop(((arg.view.loc (c : Thread nD τ) ↦[arg.view.set]{fullShare} f)
          -∗ wp frame (wpE defs 𝒱 (c : Thread nD τ) none) E (k ((arg.access r).read (Elt F) f)) K)
        -∗ wp frame (wpE defs 𝒱 (c : Thread nD τ) none) E (.op (.load arg r.toLoadRect hl) k) K) :=
  wp_load_rect 𝒱 (c : Thread nD τ) none E (m := arg) (r := r) (hl := hl) (k := k) (f := f) (arg.view.set_slice_subset r)

/-- The stores write the triples' blocks onto what is there. -/
theorem wp_stores (defs : Defs nD τ sig (Elt F) Λ) (𝒱 : Variants) (c : Dev nD) (E : Set ℕ)
    (arg3 : Memref sig .tc .vmem ⟨2, ![128, 58496]⟩ .f32) (vr vi : FVec F ⟨2, ![288, 128]⟩ .f32) (K : PUnit → sProp 𝕄)
    (f : Buf (Elt F) (arg3.view.loc (c : Thread nD τ))) (Ts : List Tri) :
    ∀ L : List (View.Piece (Elt F) ⟨2, ![128, 58496]⟩ .f32),
    (arg3.view.loc (c : Thread nD τ) ↦[arg3.view.set]{fullShare} arg3.view.writes (Elt F) f L)
      ⊢ iprop(((arg3.view.loc (c : Thread nD τ) ↦[arg3.view.set]{fullShare} arg3.view.writes (Elt F) f (pieces vr vi Ts ++ L)) -∗ K ⟨⟩)
        -∗ wp frame (wpE defs 𝒱 (c : Thread nD τ) none) E (stores arg3 vr vi Ts) K) := by
  induction Ts with
  | nil =>
    intro L
    unfold stores
    iintro H Hk
    sl_step
    iapply Hk
    iexact H
  | cons T Ts ih =>
    intro L
    have e : pieces vr vi (T :: Ts) ++ L = pieces vr vi Ts ++ ⟨T.rect, T.block vr vi⟩ :: L := by
      unfold pieces; simp
    rw [e]
    unfold stores
    have hst := wp_store_writes (Ix := Unit) (Name := ℕ) (U := UR sig nD τ) (Lvl := ℕ) (defs := defs) 𝒱 (c : Thread nD τ) none E (m := arg3) (r := T.rect) (w := T.block vr vi)
      (hx := View.stores_vmem_bits_univ T.pos rfl) (hm := .inl rfl) (S := arg3.view.set) (f := f) (L := L)
      (k := fun _ => stores arg3 vr vi Ts) (Q := K) (arg3.view.set_slice_subset T.rect)
    have hld := wp_load_held defs 𝒱 c E arg3 T.rect (View.loadsAt_vmem T.pos)
      (fun _ => .op (.store arg3 T.rect (T.block vr vi) Finset.univ (View.stores_vmem_bits_univ T.pos rfl) (.inl rfl)) fun _ =>
        stores arg3 vr vi Ts) K (arg3.view.writes (Elt F) f L)
    iintro H Hk
    iapply hld $$ [H]
    · iexact H
    iintro H
    iapply hst $$ [H]
    · iexact H
    iintro H
    iapply (ih (⟨T.rect, T.block vr vi⟩ :: L)) $$ [H]
    · iexact H
    iexact Hk

/-- The whole load of a whole block reads what it holds. -/
theorem read_whole (arg : Memref sig .tc .vmem ⟨2, ![288, 128]⟩ .f32) (f : arg.view.ty.Contents (Elt F)) :
    shapeCast (s := ⟨2, ![288, 128]⟩) ⟨2, ![288, 128]⟩
      ((arg.access (Rect.unit (s := ⟨2, ![288, 128]⟩) ![0, 0] (⟨2, ![288, 128]⟩ : Shape).size inb_in)).read (Elt F) f) rfl
      = arg.view.read (Elt F) f := by
  funext y
  have e : (Rect.unit (s := ⟨2, ![288, 128]⟩) ![0, 0] (⟨2, ![288, 128]⟩ : Shape).size inb_in).emb y = y := by
    funext a
    apply Fin.ext
    match a with
    | ⟨0, _⟩ => exact (Nat.zero_add _).trans (Nat.one_mul _)
    | ⟨1, _⟩ => exact (Nat.zero_add _).trans (Nat.one_mul _)
  unfold shapeCast
  rw [Shape.reshapeEquiv_eq_of_rowMajor (s := ⟨2, ![288, 128]⟩) (s' := ⟨2, ![288, 128]⟩) rfl (x := y) (y := y) rfl]
  exact congrArg (arg.view.read (Elt F) f) e

/-- THE BODY'S RUN: the inputs' blocks come back as they were, the output block with the triples' blocks written. -/
theorem wp_body (defs : Defs nD τ sig (Elt F) Λ) (𝒱 : Variants) (c : Dev nD) (E : Set ℕ)
    (arg1 arg2 : Memref sig .tc .vmem ⟨2, ![288, 128]⟩ .f32)
    (arg3 : Memref sig .tc .vmem ⟨2, ![128, 58496]⟩ .f32) (vr vi : FVec F ⟨2, ![288, 128]⟩ .f32) (K : PUnit → sProp 𝕄)
    (Ts : List Tri) :
    iprop(owns (c : Thread nD τ) arg1 fullShare vr ∗ owns (c : Thread nD τ) arg2 fullShare vi ∗ (∃ d, owns (c : Thread nD τ) arg3 fullShare d)
        ∗ (iprop(owns (c : Thread nD τ) arg1 fullShare vr ∗ owns (c : Thread nD τ) arg2 fullShare vi
            ∗ (∃ f, arg3.view.loc (c : Thread nD τ) ↦[arg3.view.set]{fullShare} arg3.view.writes (Elt F) f (pieces vr vi Ts))) -∗ K ⟨⟩))
      ⊢ wp frame (wpE defs 𝒱 (c : Thread nD τ) none) E (body Ts arg1 arg2 arg3) K := by
  unfold owns
  iintro ⟨⟨%f0, %hf0, H0⟩, ⟨%f1, %hf1, H1⟩, ⟨%d2, %f2, -, H2⟩, Hk⟩
  unfold body
  iapply (wp_load_held defs 𝒱 c E arg1 (Rect.unit (s := ⟨2, ![288, 128]⟩) ![0, 0] (⟨2, ![288, 128]⟩ : Shape).size inb_in)
    (View.loadsAt_vmem pos_in) _ K f0) $$ [H0]
  · iexact H0
  iintro H0
  iapply (wp_load_held defs 𝒱 c E arg2 (Rect.unit (s := ⟨2, ![288, 128]⟩) ![0, 0] (⟨2, ![288, 128]⟩ : Shape).size inb_in)
    (View.loadsAt_vmem pos_in) _ K f1) $$ [H1]
  · iexact H1
  iintro H1
  rw [read_whole, read_whole, hf0, hf1]
  iapply (wp_stores defs 𝒱 c E arg3 vr vi K f2 Ts []) $$ [H2]
  · iexact H2
  rw [List.append_nil]
  iintro H2
  iapply Hk
  isplitl [H0]
  · iexists _; isplitr; · ipureintro; exact hf0
    iexact H0
  isplitl [H1]
  · iexists _; isplitr; · ipureintro; exact hf1
    iexact H1
  iexists _; iexact H2

end Cert.CG
-- ==== Proof.KernelIdealBody.lean ====
/- The printed kernel is the body written once, at the plan's triples. -/
module

public import proofs.«01_k».proof.KernelIdeal
public import proofs.«01_k».proof.Proof.Plan

@[expose] public section

noncomputable section

namespace Cert.KernelIdeal.Launched

open Idealize.ShloMosaic Idealize.SL.Sem Cert.CG

set_option maxHeartbeats 0 in
set_option maxRecDepth 1000000 in
/-- The printed kernel loads both parts and stores the triples' blocks, one after the other, as the plan lists them. -/
theorem body_eq : @cc0__cg_kernel = fun {F : FTy → Type} [FloatOps F] [Facts] _ arg1 _ arg2 _ arg3 _ =>
    body (F := F) plan arg1 arg2 arg3 := by eq_refl

end Cert.KernelIdeal.Launched

end
-- ==== Proof.KernelIdealRun.lean ====
/- The launch of `KernelIdeal`: what the host lines around the region do, what each grid point leaves in the output's
   block, the body's run at a point, and the frame. -/
module

public import proofs.«01_k».proof.Proof.Gen.KernelIdeal.Launch
public import proofs.«01_k».proof.Proof.Gen.KernelIdeal.Points
public import proofs.«01_k».proof.Proof.KernelIdealBody
public import proofs.«01_k».proof.Proof.Stores
public import Idealize.ShloMosaic.Lib.Pipeline.FrameBody
public import Idealize.ShloMosaic.Lib.Pipeline.FrameSuffix
public import Idealize.ShloMosaic.Lib.Tactic
public import Idealize.ShloMosaic.Lib.Claim

@[expose] public section

set_option maxRecDepth 16384

noncomputable section

namespace Cert.KernelIdeal.Launched

open Cert.KernelIdeal.Gen Cert.CG
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The operations before the region allocate nothing. -/
theorem hostOps0_fresh : (hostOps0 : List (HloOp τ sig (Elt F))).Forall fun op => op.fresh = ∅ := by
  simp only [List.Forall]; repeat' constructor
/-- Nor do those after it. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run of the pipeline leaves the argument unchanged: no window stages it and no line after the region writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## The body at a point -/

/-- The first input's staging memref at point `t`. -/
abbrev ms0_0 (t : Fin cfg0.N) : Memref sig .tc .vmem S288x128 .f32 := win0_0.stage (cfg0.slots t 0)
/-- It is whole. -/
abbrev hs0_0 (t : Fin cfg0.N) : (ms0_0 t).IsWhole := hstage0_0 ((cfg0.slots t 0).cast nbuf0_0)
/-- The second input's. -/
abbrev ms0_1 (t : Fin cfg0.N) : Memref sig .tc .vmem S288x128 .f32 := win0_1.stage (cfg0.slots t 1)
/-- It is whole. -/
abbrev hs0_1 (t : Fin cfg0.N) : (ms0_1 t).IsWhole := hstage0_1 ((cfg0.slots t 1).cast nbuf0_1)
/-- The output's. -/
abbrev ms0_2 (t : Fin cfg0.N) : Memref sig .tc .vmem S128x58496 .f32 := win0_2.stage (cfg0.slots t 2)
/-- It is whole. -/
abbrev hs0_2 (t : Fin cfg0.N) : (ms0_2 t).IsWhole := hstage0_2 ((cfg0.slots t 2).cast nbuf0_2)

/-- The body at a point is the stores of the plan, on the point's staging memrefs. -/
theorem body_at (t : Fin cfg0.N) : bodyAt0 (F := F) t = body plan (ms0_0 t) (ms0_1 t) (ms0_2 t) := by
  unfold bodyAt0
  rw [body_eq]

/-- What the output's staging buffer holds after the body at point `t`: the triples' blocks, of the point's input blocks. -/
def outsAt0 (c : Dev nD) (t : Fin cfg0.N) : Vec F S128x58496 .f32 :=
  View.canon (pieces (iblk m c 0 t) (iblk m c 1 t) plan)

/-! ## The pipeline's proof data -/

/-- The proof data of the one pipeline on core `c`: the arrays as the region finds them (`V`); after the body at
    point `t` each input's buffer at its block and the output's at `outsAt0`; the invariant holds the scoped rest and
    the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

/-- The proof data's arrays are the region-entry contents: the proof data's definition projected (`dsimp`), so that
    `V` is never unfolded to check it. -/
theorem A_eq (c : Dev nD) (w : Fin cfg0.W) : (dats m 0 c).A w = V m c (Pipeline.arrRef spec0 w) := by
  dsimp only [dats]

/-- The body leaves the first input's block in place. -/
theorem after0_0 (c : Dev nD) (t : Fin cfg0.N) : (dats m 0 c).after 0 t = iblk m c 0 t := by dsimp only [dats]
/-- It leaves the second input's block in place. -/
theorem after0_1 (c : Dev nD) (t : Fin cfg0.N) : (dats m 0 c).after 1 t = iblk m c 1 t := by dsimp only [dats]
/-- It leaves the triples' blocks in the output's. -/
theorem after0_2 (c : Dev nD) (t : Fin cfg0.N) : (dats m 0 c).after 2 t = (outsAt0 m c t) := by dsimp only [dats]

/-- The first input's staging buffer holds its block at every point. -/
theorem before0_0 (c : Dev nD) (t : Fin cfg0.N) (d) : (dats m 0 c).before 0 t d = iblk m c 0 t :=
  before0_0_of m (dats m 0 c) (A_eq m c 0) (after0_0 m c) t d
/-- The second input's staging buffer holds its block at every point. -/
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` , the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the body's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  rw [body_at]
  iintro ⟨HΦ, Ho, ⟨%d0, H0⟩, ⟨%d1, H1⟩, ⟨%d2, H2⟩⟩
  iapply (wp_body defs₀ Variants.none c Set.univ (ms0_0 t) (ms0_1 t) (ms0_2 t) (iblk m c 0 t) (iblk m c 1 t) _ plan)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_eq_canon _ _ _ (pieces_cover _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME, for any values: the argument ends unchanged and every semaphore counter is zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Launched

end
-- ==== Proof.Block.lean ====
/- What a triple's block holds over the extended reals: each element the sum, over the pairs of rows, of the coefficient
   times the real or the imaginary part of the product of two elements of the loaded arrays. -/
module

public import proofs.«01_k».proof.Proof.Body
public import Idealize.ShloMosaic.Lib.ValueIdx
public import Idealize.ShloMosaic.Lib.Pipeline.Value

@[expose] public section

noncomputable section

namespace Cert.CG

open Idealize.ShloMosaic Idealize.ShloMosaic.ValueIdx
open scoped BigOperators

/-- The coefficient of the pair of rows `p`, `q` in row `x`: its word's value where the orders agree, zero elsewhere. -/
def Tri.coef (T : Tri) (x p q : ℕ) : EReal :=
  if p + q + T.l = x + T.l1 + T.l2 then
    Ideal.ofBits .f32 (BitVec.ofNat 32 (T.words.getD (p * (2 * T.l2 + 1) + q) 0))
  else 0

/-- The real (`c = 0`) or imaginary (`c = 1`) part of the product of two complex numbers. -/
def part (c : Fin 2) (ar ai br bi : EReal) : EReal := if c = 0 then ar * br - ai * bi else ar * bi + ai * br

/-- Row `p` of fragment `i` of degree `l`. -/
def rowIx (l : ℕ) (hl : l ≤ 5) (i : Fin 8) (p : Fin (2 * l + 1)) : Fin 288 :=
  ⟨8 * l * l + (i.val * (2 * l + 1) + p.val), by
    have := i.isLt
    have := p.isLt
    interval_cases l <;> omega⟩

/-- The element of row `x` of the triple's products of fragments `i` and `j`, of the real parts `r` and the imaginary
    parts `m` of the rows. -/
def Tri.val (T : Tri) (r m : Fin 288 → EReal) (i j : Fin 8) (x : ℕ) (c : Fin 2) : EReal :=
  ∑ p : Fin (2 * T.l1 + 1), ∑ q : Fin (2 * T.l2 + 1), T.coef x p.val q.val *
    part c (r (rowIx T.l1 T.h1 i p)) (m (rowIx T.l1 T.h1 i p)) (r (rowIx T.l2 T.h2 j q)) (m (rowIx T.l2 T.h2 j q))

/-! ## The sum of a row's terms -/

/-- A pattern of zeros is zero. -/
theorem ofBits_zero : Ideal.ofBits .f32 (0 : BitVec 32) = 0 := by
  simp [Ideal.ofBits, Ideal.ieee]

/-- The terms added one after the other are their sum added to the start. -/
theorem foldl_terms (t : ℕ → ℕ → FVec Ideal ⟨3, ![8, 8, 128]⟩ .f32) (j : (⟨3, ![8, 8, 128]⟩ : Shape).Idx)
    (ts : List (ℕ × ℕ × ℕ)) : ∀ acc : FVec Ideal ⟨3, ![8, 8, 128]⟩ .f32,
    ts.foldl (fun acc e => addf acc (mulf (broadcast ⟨3, ![8, 8, 128]⟩ (Scalar.ofBits .f32 (BitVec.ofNat 32 e.2.2))) (t e.1 e.2.1))) acc j
      = acc j + (ts.map fun e => Ideal.ofBits .f32 (BitVec.ofNat 32 e.2.2) * t e.1 e.2.1 j).sum := by
  induction ts with
  | nil => intro acc; simp
  | cons e ts ih =>
    intro acc
    rw [List.foldl_cons, ih, List.map_cons, List.sum_cons, ← add_assoc]
    rfl

/-- The sum over the values a partial function has is the sum of the values it has and zeros. -/
theorem sum_filterMap {α β : Type} (g : α → Option β) (f : β → EReal) (L : List α) :
    ((L.filterMap g).map f).sum = (L.map fun a => (g a).elim 0 f).sum := by
  induction L with
  | nil => rfl
  | cons a L ih =>
    cases h : g a with
    | none => simp [h, ih]
    | some b => simp [h, ih]

/-- The sum over lists one after the other is the sum of their sums. -/
theorem sum_flatMap {α β : Type} (g : α → List β) (f : β → EReal) (L : List α) :
    ((L.flatMap g).map f).sum = (L.map fun a => ((g a).map f).sum).sum := by
  induction L with
  | nil => rfl
  | cons a L ih => simp [ih]

/-- A sum over the list of the first numbers is the sum over them. -/
theorem sum_range_list (n : ℕ) (f : ℕ → EReal) : ((List.range n).map f).sum = ∑ i : Fin n, f i.val :=
  (Finset.sum_range f : ∑ i ∈ Finset.range n, f i = _)

/-- A row's sum, at an element. -/
theorem rowSum_apply (T : Tri) (x : ℕ) (t : ℕ → ℕ → FVec Ideal ⟨3, ![8, 8, 128]⟩ .f32)
    (j : (⟨3, ![8, 8, 128]⟩ : Shape).Idx) :
    rowSum (T.terms x) t j
      = ∑ p : Fin (2 * T.l1 + 1), ∑ q : Fin (2 * T.l2 + 1), T.coef x p.val q.val * t p.val q.val j := by
  unfold rowSum Tri.terms
  rw [foldl_terms, sum_flatMap, sum_range_list]
  have hz : (broadcast ⟨3, ![8, 8, 128]⟩ (Scalar.ofBits .f32 0x00000000#32) : FVec Ideal ⟨3, ![8, 8, 128]⟩ .f32) j = 0 := ofBits_zero
  rw [hz, zero_add]
  refine Finset.sum_congr rfl fun p _ => ?_
  rw [sum_filterMap, sum_range_list]
  refine Finset.sum_congr rfl fun q _ => ?_
  unfold Tri.coef
  by_cases ho : p.val + q.val + T.l = x + T.l1 + T.l2
  · by_cases hw : T.words.getD (p.val * (2 * T.l2 + 1) + q.val) 0 = 0
    · rw [if_neg (fun h => h.2 hw), if_pos ho, hw]
      show 0 = Ideal.ofBits .f32 (0 : BitVec 32) * _
      rw [ofBits_zero, zero_mul]
    · rw [if_pos ⟨ho, hw⟩, if_pos ho]; rfl
  · rw [if_neg (fun h => ho h.1), if_neg ho, zero_mul]; rfl

/-! ## The rows -/

/-- An element of the rows of a degree. -/
theorem cut_apply {l : ℕ} (hl : l ≤ 5) (v : FVec Ideal ⟨2, ![288, 128]⟩ .f32) (i : Fin 8) (p : Fin (2 * l + 1)) (n : Fin 128) :
    cut l hl v (ix3 i p n) = v (ix2 (rowIx l hl i p) n) := by
  unfold cut shapeCast
  have hlt : i.val * (2 * l + 1) + p.val < 8 * (2 * l + 1) := by
    have := i.isLt
    have := p.isLt
    interval_cases l <;> omega
  rw [Shape.reshapeEquiv_eq_of_rowMajor (casts_cut l) (x := ix3 i p n)
    (y := (ix2 ⟨i.val * (2 * l + 1) + p.val, hlt⟩ n : (⟨2, ![8 * (2 * l + 1), 128]⟩ : Shape).Idx))]
  · unfold extractStridedSlice
    congr 1
    funext a
    apply Fin.ext
    match a with
    | ⟨0, _⟩ => rfl
    | ⟨1, _⟩ => exact Nat.zero_add _
  · rw [Shape.rowMajor_val_two, Shape.rowMajor_val_three]
    rfl

/-- An element of row `p` of every fragment. -/
theorem plane_apply {l : ℕ} (hl : l ≤ 5) (v : FVec Ideal ⟨2, ![288, 128]⟩ .f32) (i : Fin 8) (p : Fin (2 * l + 1)) (n : Fin 128) :
    plane l p.val (cut l hl v) (ix2 i n) = v (ix2 (rowIx l hl i p) n) := by
  refine Eq.trans ?_ (cut_apply hl v i p n)
  match l, hl, p with
  | 0, hl, p =>
    show shapeCast (s := ⟨3, ![8, 1, 128]⟩) ⟨2, ![8, 128]⟩ (cut 0 hl v) _ (ix2 i n) = _
    unfold shapeCast
    rw [Shape.reshapeEquiv_eq_of_rowMajor (s := ⟨3, ![8, 1, 128]⟩) _ (x := ix2 i n) (y := ix3 i p n)]
    rw [Shape.rowMajor_val_two, Shape.rowMajor_val_three]
    have : p.val = 0 := by have := p.isLt; omega
    show (i.val * 1 + p.val) * 128 + n.val = i.val * 128 + n.val
    omega
  | l + 1, hl, p =>
    show (if hp : p.val < 2 * (l + 1) + 1 then
      shapeCast (s := ⟨3, ![8, 1, 128]⟩) ⟨2, ![8, 128]⟩
        (extractStridedSlice ⟨3, ![8, 1, 128]⟩ ![0, p.val, 0] (cut (l + 1) hl v) (slices_plane hp)) (by decide)
      else broadcast _ (Scalar.ofBits .f32 0x00000000#32)) (ix2 i n) = _
    rw [dif_pos p.isLt]
    unfold shapeCast
    rw [Shape.reshapeEquiv_eq_of_rowMajor (s := ⟨3, ![8, 1, 128]⟩) _ (x := ix2 i n) (y := ix3 i 0 n)]
    · unfold extractStridedSlice
      congr 1
      funext a
      apply Fin.ext
      match a with
      | ⟨0, _⟩ => exact Nat.zero_add _
      | ⟨1, _⟩ => rfl
      | ⟨2, _⟩ => exact Nat.zero_add _
    · rw [Shape.rowMajor_val_two, Shape.rowMajor_val_three]
      show (i.val * 1 + 0) * 128 + n.val = i.val * 128 + n.val
      omega

/-- A row of the first degree, at an element of the products. -/
theorem colA_apply (x : FVec Ideal ⟨2, ![8, 128]⟩ .f32) (i j : Fin 8) (n : Fin 128) : colA x (ix3 i j n) = x (ix2 i n) := by
  unfold colA
  rw [broadcastTo_apply _ _ _ (ix3 i 0 n) (fun a => by match a with | ⟨0, _⟩ => rfl | ⟨1, _⟩ => rfl | ⟨2, _⟩ => rfl)]
  unfold shapeCast
  rw [Shape.reshapeEquiv_eq_of_rowMajor (s := ⟨2, ![8, 128]⟩) _ (x := (ix3 i 0 n : (⟨3, ![8, 1, 128]⟩ : Shape).Idx)) (y := ix2 i n)]
  rw [Shape.rowMajor_val_two, Shape.rowMajor_val_three]
  show i.val * 128 + n.val = (i.val * 1 + 0) * 128 + n.val
  omega

/-- A row of the second degree, at an element of the products. -/
theorem colB_apply (x : FVec Ideal ⟨2, ![8, 128]⟩ .f32) (i j : Fin 8) (n : Fin 128) : colB x (ix3 i j n) = x (ix2 j n) := by
  unfold colB
  rw [broadcastTo_apply _ _ _ (ix3 0 j n) (fun a => by match a with | ⟨0, _⟩ => rfl | ⟨1, _⟩ => rfl | ⟨2, _⟩ => rfl)]
  unfold shapeCast
  rw [Shape.reshapeEquiv_eq_of_rowMajor (s := ⟨2, ![8, 128]⟩) _ (x := (ix3 0 j n : (⟨3, ![1, 8, 128]⟩ : Shape).Idx)) (y := ix2 j n)]
  rw [Shape.rowMajor_val_two, Shape.rowMajor_val_three]
  show j.val * 128 + n.val = (0 * 8 + j.val) * 128 + n.val
  omega

/-! ## The block -/

/-- A row among the stacked rows. -/
theorem stack_apply (l : ℕ) (r : ℕ → FVec Ideal ⟨3, ![8, 8, 128]⟩ .f32) (i j : Fin 8) (x : Fin (2 * l + 1)) (n : Fin 128) :
    stack l r (ix4 i j x n) = r x.val (ix3 i j n) := by
  have one : ∀ y : FVec Ideal ⟨3, ![8, 8, 128]⟩ .f32,
      shapeCast ⟨4, ![8, 8, 1, 128]⟩ y (by decide) (ix4 i j 0 n) = y (ix3 i j n) := by
    intro y
    unfold shapeCast
    rw [Shape.reshapeEquiv_eq_of_rowMajor (s := ⟨3, ![8, 8, 128]⟩) _ (x := (ix4 i j 0 n : (⟨4, ![8, 8, 1, 128]⟩ : Shape).Idx)) (y := ix3 i j n)]
    rw [Shape.rowMajor_val_three, Shape.rowMajor_val_four]
    show (i.val * 8 + j.val) * 128 + n.val = ((i.val * 8 + j.val) * 1 + 0) * 128 + n.val
    omega
  match l, x with
  | 0, x =>
    obtain rfl : x = 0 := Fin.ext (by have := x.isLt; omega)
    exact one (r 0)
  | l + 1, x =>
    exact (concatenate_ofFn_unit_apply (t := ⟨4, ![8, 8, 2 * (l + 1) + 1, 128]⟩) (s₁ := ⟨4, ![8, 8, 1, 128]⟩) 2
      (fun x : Fin (2 * (l + 1) + 1) => shapeCast ⟨4, ![8, 8, 1, 128]⟩ (r x.val) (by decide)) (concatenates_rows l _)
      rfl rfl (ix4 i j x n) x rfl (ix4 i j 0 n)
      (fun b hb => by
        match b with
        | ⟨0, _⟩ => rfl
        | ⟨1, _⟩ => rfl
        | ⟨2, _⟩ => exact absurd rfl hb
        | ⟨3, _⟩ => rfl)).trans (one (r x.val))

/-- The position of an element of a block: fragment by fragment, row by row, the real part before the imaginary. -/
def colIx (l : ℕ) (i j : Fin 8) (x : Fin (2 * l + 1)) (c : Fin 2) : ℕ := ((i.val * 8 + j.val) * (2 * l + 1) + x.val) * 2 + c.val

/-- An element of a block. -/
theorem interleave_apply (l : ℕ) (r m : ℕ → FVec Ideal ⟨3, ![8, 8, 128]⟩ .f32) (i j : Fin 8) (x : Fin (2 * l + 1)) (c : Fin 2)
    (n : Fin 128) (k : Fin (128 * (2 * l + 1))) (hk : k.val = colIx l i j x c) :
    interleave l r m (ix2 n k) = if c = 0 then r x.val (ix3 i j n) else m x.val (ix3 i j n) := by
  have one : ∀ y : FVec Ideal ⟨4, ![8, 8, 2 * l + 1, 128]⟩ .f32,
      shapeCast ⟨5, ![8, 8, 2 * l + 1, 1, 128]⟩ y (casts_part l) (ix5 i j x 0 n) = y (ix4 i j x n) := by
    intro y
    unfold shapeCast
    rw [Shape.reshapeEquiv_eq_of_rowMajor (s := ⟨4, ![8, 8, 2 * l + 1, 128]⟩) _
      (x := (ix5 i j x 0 n : (⟨5, ![8, 8, 2 * l + 1, 1, 128]⟩ : Shape).Idx)) (y := ix4 i j x n)]
    rw [Shape.rowMajor_val_four, Shape.rowMajor_val_succ, Shape.rowMajor_val_four]
    show ((i.val * 8 + j.val) * (2 * l + 1) + x.val) * 128 + n.val
      = i.val * (⟨4, ![8, 2 * l + 1, 1, 128]⟩ : Shape).numel + (((j.val * (2 * l + 1) + x.val) * 1 + 0) * 128 + n.val)
    have : (⟨4, ![8, 2 * l + 1, 1, 128]⟩ : Shape).numel = 8 * ((2 * l + 1) * 128) := by
      simp [Shape.numel, Fin.prod_univ_succ]
    rw [this]; ring
  unfold interleave transpose
  have e1 : (transposes_flat (128 * (2 * l + 1))).src (ix2 n k) = ix2 k n := by
    funext a
    match a with
    | ⟨0, _⟩ => rfl
    | ⟨1, _⟩ => rfl
  rw [e1]
  show shapeCast _ _ (casts_flat l) (ix2 k n) = _
  unfold shapeCast
  rw [Shape.reshapeEquiv_eq_of_rowMajor (casts_flat l) (x := ix2 k n) (y := ix5 i j x c n)]
  · match c with
    | 0 =>
      rw [if_pos rfl]
      exact (concatenate_pair_apply_left (t := ⟨5, ![8, 8, 2 * l + 1, 2, 128]⟩) (s₁ := ⟨5, ![8, 8, 2 * l + 1, 1, 128]⟩)
        (s₂ := ⟨5, ![8, 8, 2 * l + 1, 1, 128]⟩) 3 _ _ _ _ rfl (ix5 i j x 0 n) (fun b => by
        match b with
        | ⟨0, _⟩ => rfl
        | ⟨1, _⟩ => rfl
        | ⟨2, _⟩ => rfl
        | ⟨3, _⟩ => rfl
        | ⟨4, _⟩ => rfl)).trans ((one _).trans (stack_apply l r i j x n))
    | 1 =>
      rw [if_neg (by decide)]
      exact (concatenate_pair_apply_right (t := ⟨5, ![8, 8, 2 * l + 1, 2, 128]⟩) (s₁ := ⟨5, ![8, 8, 2 * l + 1, 1, 128]⟩)
        (s₂ := ⟨5, ![8, 8, 2 * l + 1, 1, 128]⟩) 3 _ _ _ _ rfl rfl (ix5 i j x 0 n) (fun b hb => by
        match b with
        | ⟨0, _⟩ => rfl
        | ⟨1, _⟩ => rfl
        | ⟨2, _⟩ => rfl
        | ⟨3, _⟩ => exact absurd rfl hb
        | ⟨4, _⟩ => rfl) rfl).trans ((one _).trans (stack_apply l m i j x n))
  · rw [Shape.rowMajor_val_two, Shape.rowMajor_val_succ, Shape.rowMajor_val_four]
    show i.val * (⟨4, ![8, 2 * l + 1, 2, 128]⟩ : Shape).numel + (((j.val * (2 * l + 1) + x.val) * 2 + c.val) * 128 + n.val)
      = k.val * 128 + n.val
    have : (⟨4, ![8, 2 * l + 1, 2, 128]⟩ : Shape).numel = 8 * ((2 * l + 1) * 256) := by
      simp [Shape.numel, Fin.prod_univ_succ]
    rw [this, hk, colIx]; ring

/-- WHAT A BLOCK HOLDS: at batch element `n` the triple's products of the loaded rows of that element. -/
theorem block_apply (T : Tri) (vr vi : FVec Ideal ⟨2, ![288, 128]⟩ .f32) (i j : Fin 8) (x : Fin (2 * T.l + 1)) (c : Fin 2)
    (n : Fin 128) (k : Fin (128 * (2 * T.l + 1))) (hk : k.val = colIx T.l i j x c) :
    T.block vr vi (ix2 n k) = T.val (fun a => vr (ix2 a n)) (fun a => vi (ix2 a n)) i j x.val c := by
  unfold Tri.block Tri.val
  rw [interleave_apply T.l _ _ i j x c n k hk]
  match c with
  | 0 =>
    rw [if_pos rfl, rowSum_apply]
    refine Finset.sum_congr rfl fun p _ => Finset.sum_congr rfl fun q _ => ?_
    unfold prodRe part
    rw [subf_apply, mulf_apply, mulf_apply, colA_apply, colA_apply, colB_apply, colB_apply, plane_apply, plane_apply,
      plane_apply, plane_apply, if_pos rfl]
  | 1 =>
    rw [if_neg (by decide), rowSum_apply]
    refine Finset.sum_congr rfl fun p _ => Finset.sum_congr rfl fun q _ => ?_
    unfold prodIm part
    rw [addf_apply, mulf_apply, mulf_apply, colA_apply, colA_apply, colB_apply, colB_apply, plane_apply, plane_apply,
      plane_apply, plane_apply, if_neg (by decide)]

end Cert.CG
-- ==== Proof.RefPlan.lean ====
/- The reference's pieces in the order in which it lays them side by side: each a triple of degrees and the table of its
   coefficients as the reference prints it. The tables agree with the triples' words. -/
module

public import proofs.«01_k».proof.ReferenceIdeal
public import proofs.«01_k».proof.Proof.Plan

@[expose] public section

noncomputable section

namespace Cert.CG

open Idealize.ShloMosaic Cert.ReferenceIdeal

/-- A piece of the reference's result: its triple and its table, by row `x` of the result and rows `p`, `q` of the factors. -/
structure Entry where
  T : Tri
  tab : Fin (⟨3, ![2 * T.l + 1, 2 * T.l1 + 1, 2 * T.l2 + 1]⟩ : Shape).numel → BitVec 32

/-- The pieces of the first run. -/
def refs0 : List Entry := [
  ⟨t000, fun _ => 0x3F800000#32⟩, ⟨t110, lit0⟩, ⟨t220, lit1⟩, ⟨t330, lit2⟩,
  ⟨t440, lit3⟩, ⟨t550, lit4⟩, ⟨t101, lit5⟩, ⟨t111, lit6⟩,
  ⟨t211, lit7⟩, ⟨t221, lit8⟩, ⟨t321, lit9⟩, ⟨t331, lit10⟩,
  ⟨t431, lit11⟩, ⟨t441, lit12⟩, ⟨t541, lit13⟩, ⟨t551, lit14⟩]

/-- The pieces of the second run. -/
def refs1 : List Entry := [
  ⟨t112, lit15⟩, ⟨t202, lit16⟩, ⟨t212, lit17⟩, ⟨t222, lit18⟩,
  ⟨t312, lit19⟩, ⟨t322, lit20⟩, ⟨t332, lit21⟩, ⟨t422, lit22⟩,
  ⟨t432, lit23⟩, ⟨t442, lit24⟩, ⟨t532, lit25⟩, ⟨t542, lit26⟩,
  ⟨t552, lit27⟩, ⟨t213, lit28⟩, ⟨t223, lit29⟩, ⟨t303, lit30⟩]

/-- The pieces of the third run. -/
def refs2 : List Entry := [
  ⟨t313, lit31⟩, ⟨t323, lit32⟩, ⟨t333, lit33⟩, ⟨t413, lit34⟩,
  ⟨t423, lit35⟩, ⟨t433, lit36⟩, ⟨t443, lit37⟩, ⟨t523, lit38⟩,
  ⟨t533, lit39⟩, ⟨t543, lit40⟩, ⟨t553, lit41⟩, ⟨t224, lit42⟩,
  ⟨t314, lit43⟩, ⟨t324, lit44⟩, ⟨t334, lit45⟩, ⟨t404, lit46⟩]

/-- The pieces of the fourth run. -/
def refs3 : List Entry := [
  ⟨t414, lit47⟩, ⟨t424, lit48⟩, ⟨t434, lit49⟩, ⟨t444, lit50⟩,
  ⟨t514, lit51⟩, ⟨t524, lit52⟩, ⟨t534, lit53⟩, ⟨t544, lit54⟩,
  ⟨t554, lit55⟩, ⟨t325, lit56⟩, ⟨t335, lit57⟩, ⟨t415, lit58⟩,
  ⟨t425, lit59⟩, ⟨t435, lit60⟩, ⟨t445, lit61⟩, ⟨t505, lit62⟩]

/-- The pieces of the fifth run. -/
def refs4 : List Entry := [
  ⟨t515, lit63⟩, ⟨t525, lit64⟩, ⟨t535, lit65⟩, ⟨t545, lit66⟩,
  ⟨t555, lit67⟩]

/-- All pieces, run after run. -/
def refs : List (List Entry) := [refs0, refs1, refs2, refs3, refs4]

/-- The word a triple has for row `x` of the result and rows `p`, `q` of the factors. -/
def Tri.word (T : Tri) (x p q : ℕ) : ℕ :=
  if p + q + T.l = x + T.l1 + T.l2 then T.words.getD (p * (2 * T.l2 + 1) + q) 0 else 0

/-- Whether a table holds its triple's words. -/
def Entry.good (e : Entry) : Prop := ∀ i : Fin (⟨3, ![2 * e.T.l + 1, 2 * e.T.l1 + 1, 2 * e.T.l2 + 1]⟩ : Shape).numel,
  e.tab i = BitVec.ofNat 32 (e.T.word (i.val / (2 * e.T.l2 + 1) / (2 * e.T.l1 + 1)) (i.val / (2 * e.T.l2 + 1) % (2 * e.T.l1 + 1)) (i.val % (2 * e.T.l2 + 1)))

/-- Whether a table is good can be computed. -/
instance (e : Entry) : Decidable e.good := by unfold Entry.good; infer_instance

end Cert.CG
-- ==== Proof.Ref.lean ====
/- The reference's operations written once, for all its pieces, and what they hold over the extended reals: each element
   the triple's sum of coefficients times products of the argument's elements. -/
module

public import proofs.«01_k».proof.Proof.Block
public import proofs.«01_k».proof.Proof.RefPlan
public import Idealize.ShloMosaic.Lib.ValueIdxRank6
public import Idealize.ShloMosaic.Lib.TwoAxisContraction
public import Idealize.ShloMosaic.PureOps.Ideal.Laws

@[expose] public section

noncomputable section

namespace Cert.CG

open Idealize.ShloMosaic Idealize.ShloMosaic.ValueIdx
open scoped BigOperators

variable {F : FTy → Type} [FloatOps F]

/-! ## The operations -/

/-- One part lies in the argument. -/
theorem slices_re_im (c : Fin 2) : (⟨3, ![256, 288, 2]⟩ : Shape).Slices ![0, 0, c.val] ⟨3, ![256, 288, 1]⟩ := by
  refine ⟨rfl, fun a => ?_⟩
  match a with
  | 0 => show 0 + 256 ≤ 256; omega
  | 1 => show 0 + 288 ≤ 288; omega
  | 2 => show c.val + 1 ≤ 2; omega

/-- The real or the imaginary part of the argument. -/
def rPart (c : Fin 2) (v : FVec F ⟨3, ![256, 288, 2]⟩ .f32) : FVec F ⟨2, ![256, 288]⟩ .f32 :=
  shapeCast (s := ⟨3, ![256, 288, 1]⟩) ⟨2, ![256, 288]⟩
    (extractStridedSlice ⟨3, ![256, 288, 1]⟩ ![0, 0, c.val] v (slices_re_im c)) (by simp [Shape.ShapeCasts, Shape.numel, Fin.prod_univ_succ])

/-- The columns of degree `l` lie in the part. -/
theorem slices_frag {l : ℕ} (hl : l ≤ 5) : (⟨2, ![256, 288]⟩ : Shape).Slices ![0, 8 * l * l] ⟨2, ![256, 8 * (2 * l + 1)]⟩ := by
  refine ⟨rfl, fun a => ?_⟩
  match a with
  | 0 => show 0 + 256 ≤ 256; omega
  | 1 => show 8 * l * l + 8 * (2 * l + 1) ≤ 288; interval_cases l <;> omega

/-- The columns of degree `l` as eight fragments. -/
theorem casts_frag (l : ℕ) : (⟨2, ![256, 8 * (2 * l + 1)]⟩ : Shape).ShapeCasts ⟨3, ![256, 8, 2 * l + 1]⟩ := by
  simp [Shape.ShapeCasts, Shape.numel, Fin.prod_univ_succ]

/-- The fragments of degree `l`. -/
def rFrag (l : ℕ) (hl : l ≤ 5) (v : FVec F ⟨2, ![256, 288]⟩ .f32) : FVec F ⟨3, ![256, 8, 2 * l + 1]⟩ .f32 :=
  shapeCast ⟨3, ![256, 8, 2 * l + 1]⟩
    (extractStridedSlice ⟨2, ![256, 8 * (2 * l + 1)]⟩ ![0, 8 * l * l] v (slices_frag hl)) (casts_frag l)

/-- The first factor with axes of one for the second factor's fragments and rows. -/
theorem bcast_a1 (P : ℕ) : (⟨3, ![256, 8, P]⟩ : Shape).BroadcastsInDim ⟨5, ![256, 8, 1, P, 1]⟩ (![0, 1, 3] : Fin 3 → Fin 5) := by
  refine ⟨(by decide : Function.Injective (![0, 1, 3] : Fin 3 → Fin 5)), fun a => ?_⟩
  match a with
  | 0 => exact .inr rfl
  | 1 => exact .inr rfl
  | 2 => exact .inr rfl

/-- The first factor along the second factor's fragments and rows. -/
theorem bcast_a2 (P Q : ℕ) :
    (⟨5, ![256, 8, 1, P, 1]⟩ : Shape).BroadcastsInDim ⟨5, ![256, 8, 8, P, Q]⟩ (![0, 1, 2, 3, 4] : Fin 5 → Fin 5) := by
  refine ⟨(by decide : Function.Injective (![0, 1, 2, 3, 4] : Fin 5 → Fin 5)), fun a => ?_⟩
  match a with
  | 0 => exact .inr rfl
  | 1 => exact .inr rfl
  | 2 => exact .inl rfl
  | 3 => exact .inr rfl
  | 4 => exact .inl rfl

/-- The second factor with axes of one for the first factor's fragments and rows. -/
theorem bcast_b1 (Q : ℕ) : (⟨3, ![256, 8, Q]⟩ : Shape).BroadcastsInDim ⟨5, ![256, 1, 8, 1, Q]⟩ (![0, 2, 4] : Fin 3 → Fin 5) := by
  refine ⟨(by decide : Function.Injective (![0, 2, 4] : Fin 3 → Fin 5)), fun a => ?_⟩
  match a with
  | 0 => exact .inr rfl
  | 1 => exact .inr rfl
  | 2 => exact .inr rfl

/-- The second factor along the first factor's fragments and rows. -/
theorem bcast_b2 (P Q : ℕ) :
    (⟨5, ![256, 1, 8, 1, Q]⟩ : Shape).BroadcastsInDim ⟨5, ![256, 8, 8, P, Q]⟩ (![0, 1, 2, 3, 4] : Fin 5 → Fin 5) := by
  refine ⟨(by decide : Function.Injective (![0, 1, 2, 3, 4] : Fin 5 → Fin 5)), fun a => ?_⟩
  match a with
  | 0 => exact .inr rfl
  | 1 => exact .inl rfl
  | 2 => exact .inr rfl
  | 3 => exact .inl rfl
  | 4 => exact .inr rfl

/-- The products with an axis of one for the part. -/
theorem bcast_c (P Q : ℕ) :
    (⟨5, ![256, 8, 8, P, Q]⟩ : Shape).BroadcastsInDim ⟨6, ![256, 8, 8, P, Q, 1]⟩ (![0, 1, 2, 3, 4] : Fin 5 → Fin 6) := by
  refine ⟨(by decide : Function.Injective (![0, 1, 2, 3, 4] : Fin 5 → Fin 6)), fun a => ?_⟩
  match a with
  | 0 => exact .inr rfl
  | 1 => exact .inr rfl
  | 2 => exact .inr rfl
  | 3 => exact .inr rfl
  | 4 => exact .inr rfl

/-- The first factor of all products. -/
def rA (P Q : ℕ) (f : FVec F ⟨3, ![256, 8, P]⟩ .f32) : FVec F ⟨5, ![256, 8, 8, P, Q]⟩ .f32 :=
  broadcastInDim ⟨5, ![256, 8, 8, P, Q]⟩ ![0, 1, 2, 3, 4] (bcast_a2 P Q)
    (broadcastInDim ⟨5, ![256, 8, 1, P, 1]⟩ ![0, 1, 3] (bcast_a1 P) f)

/-- The second factor of all products. -/
def rB (P Q : ℕ) (f : FVec F ⟨3, ![256, 8, Q]⟩ .f32) : FVec F ⟨5, ![256, 8, 8, P, Q]⟩ .f32 :=
  broadcastInDim ⟨5, ![256, 8, 8, P, Q]⟩ ![0, 1, 2, 3, 4] (bcast_b2 P Q)
    (broadcastInDim ⟨5, ![256, 1, 8, 1, Q]⟩ ![0, 2, 4] (bcast_b1 Q) f)

/-- The two parts side by side. -/
theorem concatenates_prod (P Q : ℕ) :
    Shape.Concatenates [⟨6, ![256, 8, 8, P, Q, 1]⟩, ⟨6, ![256, 8, 8, P, Q, 1]⟩] ⟨6, ![256, 8, 8, P, Q, 2]⟩ 5 := by
  refine ⟨by simp, fun s hs => ?_, ?_⟩
  · obtain rfl : s = ⟨6, ![256, 8, 8, P, Q, 1]⟩ := by simpa using hs
    refine ⟨rfl, fun b hb => ?_⟩
    match b with
    | 0 => rfl
    | 1 => rfl
    | 2 => rfl
    | 3 => rfl
    | 4 => rfl
    | 5 => exact absurd rfl hb
  · simp

/-- The complex products of all rows of all pairs of fragments. -/
def rProd (P Q : ℕ) (ar ai : FVec F ⟨3, ![256, 8, P]⟩ .f32) (br bi : FVec F ⟨3, ![256, 8, Q]⟩ .f32) :
    FVec F ⟨6, ![256, 8, 8, P, Q, 2]⟩ .f32 :=
  concatenate ⟨6, ![256, 8, 8, P, Q, 2]⟩ 5
    [⟨⟨6, ![256, 8, 8, P, Q, 1]⟩, broadcastInDim ⟨6, ![256, 8, 8, P, Q, 1]⟩ ![0, 1, 2, 3, 4] (bcast_c P Q)
        (subf (mulf (rA P Q ar) (rB P Q br)) (mulf (rA P Q ai) (rB P Q bi)))⟩,
     ⟨⟨6, ![256, 8, 8, P, Q, 1]⟩, broadcastInDim ⟨6, ![256, 8, 8, P, Q, 1]⟩ ![0, 1, 2, 3, 4] (bcast_c P Q)
        (addf (mulf (rA P Q ar) (rB P Q bi)) (mulf (rA P Q ai) (rB P Q br)))⟩]
    (concatenates_prod P Q)

/-- The products' rows contracted with the coefficients' last two axes. -/
def rDims (P Q X : ℕ) : DotDims ⟨6, ![256, 8, 8, P, Q, 2]⟩ ⟨3, ![X, P, Q]⟩ ⟨5, ![256, 8, 8, 2, X]⟩ where
  lhsContracting := [3, 4]
  rhsContracting := [1, 2]
  lhsNonContracting := [0, 1, 2, 5]
  rhsNonContracting := [0]
  lhsBatch := []
  rhsBatch := []
  wf := ⟨rfl, by simp, rfl, by simp, (by decide : ([0, 1, 2, 5] : List (Fin 6)).Pairwise (· < ·)), by simp,
    (by decide : ([0, 1, 2, 5, 3, 4] : List (Fin 6)).Perm (List.finRange 6)),
    (by decide : ([0, 1, 2] : List (Fin 3)).Perm (List.finRange 3)), rfl, (by decide : 0 < 5), fun b => by
      match b with
      | 0 => rfl
      | 1 => rfl
      | 2 => rfl
      | 3 => rfl
      | 4 => rfl⟩

/-- The result's rows before its part. -/
theorem transposes_piece (X : ℕ) : (⟨5, ![256, 8, 8, 2, X]⟩ : Shape).Transposes [0, 1, 2, 4, 3] ⟨5, ![256, 8, 8, X, 2]⟩ := by
  refine ⟨show [(0 : Fin 5), 1, 2, 4, 3].Perm (List.finRange 5) by decide, rfl, fun b => ?_⟩
  match b with
  | 0 => rfl
  | 1 => rfl
  | 2 => rfl
  | 3 => rfl
  | 4 => rfl

/-- The fragments' and rows' axes in one. -/
theorem casts_piece (l : ℕ) : (⟨5, ![256, 8, 8, 2 * l + 1, 2]⟩ : Shape).ShapeCasts ⟨3, ![256, 64 * (2 * l + 1), 2]⟩ := by
  simp [Shape.ShapeCasts, Shape.numel, Fin.prod_univ_succ]; ring

/-- A piece of the reference's result, of the argument. -/
def rPiece (e : Entry) (v : FVec F ⟨3, ![256, 288, 2]⟩ .f32) : FVec F ⟨3, ![256, 64 * (2 * e.T.l + 1), 2]⟩ .f32 :=
  shapeCast ⟨3, ![256, 64 * (2 * e.T.l + 1), 2]⟩
    (transpose ⟨5, ![256, 8, 8, 2 * e.T.l + 1, 2]⟩ [0, 1, 2, 4, 3]
      (Host.dotGeneral (rDims (2 * e.T.l1 + 1) (2 * e.T.l2 + 1) (2 * e.T.l + 1)) none
        (rProd (2 * e.T.l1 + 1) (2 * e.T.l2 + 1) (rFrag e.T.l1 e.T.h1 (rPart 0 v)) (rFrag e.T.l1 e.T.h1 (rPart 1 v))
          (rFrag e.T.l2 e.T.h2 (rPart 0 v)) (rFrag e.T.l2 e.T.h2 (rPart 1 v)))
        (fun i => FloatOps.ofBits .f32 (e.tab ((⟨3, ![2 * e.T.l + 1, 2 * e.T.l1 + 1, 2 * e.T.l2 + 1]⟩ : Shape).rowMajor i)))
        : FVec F ⟨5, ![256, 8, 8, 2, 2 * e.T.l + 1]⟩ .f32)
      (transposes_piece _))
    (casts_piece _)

/-! ## What they hold -/

/-- An element of a part of the argument. -/
theorem rPart_apply (c : Fin 2) (v : FVec Ideal ⟨3, ![256, 288, 2]⟩ .f32) (n : Fin 256) (a : Fin 288) :
    rPart c v (ix2 n a) = v (ix3 n a c) := by
  unfold rPart shapeCast
  rw [Shape.reshapeEquiv_eq_of_rowMajor (s := ⟨3, ![256, 288, 1]⟩) _ (x := ix2 n a) (y := ix3 n a 0)]
  · unfold extractStridedSlice
    congr 1
    funext b
    apply Fin.ext
    match b with
    | ⟨0, _⟩ => exact Nat.zero_add _
    | ⟨1, _⟩ => exact Nat.zero_add _
    | ⟨2, _⟩ => rfl
  · rw [Shape.rowMajor_val_two, Shape.rowMajor_val_three]
    show (n.val * 288 + a.val) * 1 + 0 = n.val * 288 + a.val
    omega

/-- An element of a fragment. -/
theorem rFrag_apply {l : ℕ} (hl : l ≤ 5) (v : FVec Ideal ⟨2, ![256, 288]⟩ .f32) (n : Fin 256) (i : Fin 8) (p : Fin (2 * l + 1)) :
    rFrag l hl v (ix3 n i p) = v (ix2 n (rowIx l hl i p)) := by
  unfold rFrag shapeCast
  have hlt : i.val * (2 * l + 1) + p.val < 8 * (2 * l + 1) := by
    have := i.isLt
    have := p.isLt
    interval_cases l <;> omega
  rw [Shape.reshapeEquiv_eq_of_rowMajor (casts_frag l) (x := ix3 n i p)
    (y := (ix2 n ⟨i.val * (2 * l + 1) + p.val, hlt⟩ : (⟨2, ![256, 8 * (2 * l + 1)]⟩ : Shape).Idx))]
  · unfold extractStridedSlice
    congr 1
    funext b
    apply Fin.ext
    match b with
    | ⟨0, _⟩ => exact Nat.zero_add _
    | ⟨1, _⟩ => rfl
  · rw [Shape.rowMajor_val_two, Shape.rowMajor_val_three]
    show n.val * (8 * (2 * l + 1)) + (i.val * (2 * l + 1) + p.val) = (n.val * 8 + i.val) * (2 * l + 1) + p.val
    ring

/-- A position along an axis that may be of one. -/
theorem val_eq_ite {P : ℕ} (p : Fin P) : p.val = if P = 1 then 0 else p.val := by
  split_ifs with h
  · have := p.isLt; omega
  · rfl

/-- The first factor of a product. -/
theorem rA_apply {P Q : ℕ} (f : FVec Ideal ⟨3, ![256, 8, P]⟩ .f32) (n : Fin 256) (i j : Fin 8) (p : Fin P) (q : Fin Q) :
    rA P Q f (ix5 n i j p q) = f (ix3 n i p) := by
  unfold rA
  rw [broadcastInDim_apply _ _ _ _ (ix5 n i 0 p 0 : (⟨5, ![256, 8, 1, P, 1]⟩ : Shape).Idx) (fun a => by
      match a with
      | ⟨0, _⟩ => rfl
      | ⟨1, _⟩ => rfl
      | ⟨2, _⟩ => rfl
      | ⟨3, _⟩ => exact val_eq_ite p
      | ⟨4, _⟩ => rfl),
    broadcastInDim_apply _ _ _ _ (ix3 n i p : (⟨3, ![256, 8, P]⟩ : Shape).Idx) (fun a => by
      match a with
      | ⟨0, _⟩ => rfl
      | ⟨1, _⟩ => rfl
      | ⟨2, _⟩ => exact val_eq_ite p)]

/-- The second factor of a product. -/
theorem rB_apply {P Q : ℕ} (f : FVec Ideal ⟨3, ![256, 8, Q]⟩ .f32) (n : Fin 256) (i j : Fin 8) (p : Fin P) (q : Fin Q) :
    rB P Q f (ix5 n i j p q) = f (ix3 n j q) := by
  unfold rB
  rw [broadcastInDim_apply _ _ _ _ (ix5 n 0 j 0 q : (⟨5, ![256, 1, 8, 1, Q]⟩ : Shape).Idx) (fun a => by
      match a with
      | ⟨0, _⟩ => rfl
      | ⟨1, _⟩ => rfl
      | ⟨2, _⟩ => rfl
      | ⟨3, _⟩ => rfl
      | ⟨4, _⟩ => exact val_eq_ite q),
    broadcastInDim_apply _ _ _ _ (ix3 n j q : (⟨3, ![256, 8, Q]⟩ : Shape).Idx) (fun a => by
      match a with
      | ⟨0, _⟩ => rfl
      | ⟨1, _⟩ => rfl
      | ⟨2, _⟩ => exact val_eq_ite q)]

/-- A part of a product. -/
theorem rProd_apply {P Q : ℕ} (ar ai : FVec Ideal ⟨3, ![256, 8, P]⟩ .f32) (br bi : FVec Ideal ⟨3, ![256, 8, Q]⟩ .f32)
    (n : Fin 256) (i j : Fin 8) (p : Fin P) (q : Fin Q) (c : Fin 2) :
    rProd P Q ar ai br bi (ix6 n i j p q c)
      = part c (ar (ix3 n i p)) (ai (ix3 n i p)) (br (ix3 n j q)) (bi (ix3 n j q)) := by
  have one : ∀ y : FVec Ideal ⟨5, ![256, 8, 8, P, Q]⟩ .f32,
      broadcastInDim ⟨6, ![256, 8, 8, P, Q, 1]⟩ ![0, 1, 2, 3, 4] (bcast_c P Q) y (ix6 n i j p q 0) = y (ix5 n i j p q) := fun y =>
    broadcastInDim_apply _ _ _ _ _ (fun a => by
      match a with
      | ⟨0, _⟩ => rfl
      | ⟨1, _⟩ => rfl
      | ⟨2, _⟩ => rfl
      | ⟨3, _⟩ => exact val_eq_ite p
      | ⟨4, _⟩ => exact val_eq_ite q)
  unfold rProd part
  match c with
  | 0 =>
    rw [if_pos rfl]
    refine (concatenate_pair_apply_left (t := ⟨6, ![256, 8, 8, P, Q, 2]⟩) (s₁ := ⟨6, ![256, 8, 8, P, Q, 1]⟩)
      (s₂ := ⟨6, ![256, 8, 8, P, Q, 1]⟩) 5 _ _ _ _ rfl (ix6 n i j p q 0) (fun b => by
        match b with
        | ⟨0, _⟩ => rfl
        | ⟨1, _⟩ => rfl
        | ⟨2, _⟩ => rfl
        | ⟨3, _⟩ => rfl
        | ⟨4, _⟩ => rfl
        | ⟨5, _⟩ => rfl)).trans ?_
    rw [one, subf_apply, mulf_apply, mulf_apply, rA_apply, rA_apply, rB_apply, rB_apply]
  | 1 =>
    rw [if_neg (by decide)]
    refine (concatenate_pair_apply_right (t := ⟨6, ![256, 8, 8, P, Q, 2]⟩) (s₁ := ⟨6, ![256, 8, 8, P, Q, 1]⟩)
      (s₂ := ⟨6, ![256, 8, 8, P, Q, 1]⟩) 5 _ _ _ _ rfl rfl (ix6 n i j p q 0) (fun b hb => by
        match b with
        | ⟨0, _⟩ => rfl
        | ⟨1, _⟩ => rfl
        | ⟨2, _⟩ => rfl
        | ⟨3, _⟩ => rfl
        | ⟨4, _⟩ => rfl
        | ⟨5, _⟩ => exact absurd rfl hb) rfl).trans ?_
    rw [one, addf_apply, mulf_apply, mulf_apply, rA_apply, rA_apply, rB_apply, rB_apply]

/-- An element of a contraction: the double sum over the rows. -/
theorem rDot_apply {P Q X : ℕ} (L : FVec Ideal ⟨6, ![256, 8, 8, P, Q, 2]⟩ .f32) (R : FVec Ideal ⟨3, ![X, P, Q]⟩ .f32)
    (n : Fin 256) (i j : Fin 8) (c : Fin 2) (x : Fin X) :
    (Host.dotGeneral (rDims P Q X) none L R : FVec Ideal ⟨5, ![256, 8, 8, 2, X]⟩ .f32) (ix5 n i j c x)
      = ∑ p : Fin P, ∑ q : Fin Q, L (ix6 n i j p q c) * R (ix3 x p q) := by
  have hr : (rDims P Q X).contr.rank = 2 := rfl
  have c0 : (rDims P Q X).contr.size ⟨0, by rw [hr]; omega⟩ = P := rfl
  have c1 : (rDims P Q X).contr.size ⟨1, by rw [hr]; omega⟩ = Q := rfl
  refine (Ideal.dotGeneral_apply (rDims P Q X) none .single L R (ix5 n i j c x)).trans ?_
  rw [sum_contr2 (rDims P Q X) P Q hr c0 c1]
  refine Finset.sum_congr rfl fun p _ => Finset.sum_congr rfl fun q _ => ?_
  have h0 := contrEquiv2_symm_val0 (rDims P Q X) P Q hr c0 c1 (p, q)
  have h1 := contrEquiv2_symm_val1 (rDims P Q X) P Q hr c0 c1 (p, q)
  have el : (rDims P Q X).lhsIdx (ix5 n i j c x) ((contrEquiv2 (rDims P Q X) P Q hr c0 c1).symm (p, q)) = ix6 n i j p q c := by
    funext a; apply Fin.ext
    match a with
    | ⟨0, _⟩ => rfl
    | ⟨1, _⟩ => rfl
    | ⟨2, _⟩ => rfl
    | ⟨3, _⟩ => exact h0
    | ⟨4, _⟩ => exact h1
    | ⟨5, _⟩ => rfl
  have er : (rDims P Q X).rhsIdx (ix5 n i j c x) ((contrEquiv2 (rDims P Q X) P Q hr c0 c1).symm (p, q)) = ix3 x p q := by
    funext a; apply Fin.ext
    match a with
    | ⟨0, _⟩ => rfl
    | ⟨1, _⟩ => exact h0
    | ⟨2, _⟩ => exact h1
  rw [el, er]

/-- A table's element is the triple's coefficient, the table being good. -/
theorem tab_coef (e : Entry) (he : e.good) (x : Fin (2 * e.T.l + 1)) (p : Fin (2 * e.T.l1 + 1)) (q : Fin (2 * e.T.l2 + 1)) :
    Ideal.ofBits .f32 (e.tab ((⟨3, ![2 * e.T.l + 1, 2 * e.T.l1 + 1, 2 * e.T.l2 + 1]⟩ : Shape).rowMajor (ix3 x p q)))
      = e.T.coef x.val p.val q.val := by
  rw [he]
  have hv : ((⟨3, ![2 * e.T.l + 1, 2 * e.T.l1 + 1, 2 * e.T.l2 + 1]⟩ : Shape).rowMajor (ix3 x p q)).val
      = (x.val * (2 * e.T.l1 + 1) + p.val) * (2 * e.T.l2 + 1) + q.val := by
    rw [Shape.rowMajor_val_three]; rfl
  have hd : ((x.val * (2 * e.T.l1 + 1) + p.val) * (2 * e.T.l2 + 1) + q.val) / (2 * e.T.l2 + 1) = x.val * (2 * e.T.l1 + 1) + p.val := by
    rw [Nat.mul_comm, Nat.mul_add_div (by omega), Nat.div_eq_of_lt q.isLt, Nat.add_zero]
  have hd' : (x.val * (2 * e.T.l1 + 1) + p.val) / (2 * e.T.l1 + 1) = x.val := by
    rw [Nat.mul_comm, Nat.mul_add_div (by omega), Nat.div_eq_of_lt p.isLt, Nat.add_zero]
  have hm : ((x.val * (2 * e.T.l1 + 1) + p.val) * (2 * e.T.l2 + 1) + q.val) % (2 * e.T.l2 + 1) = q.val := by
    rw [Nat.mul_comm, Nat.mul_add_mod, Nat.mod_eq_of_lt q.isLt]
  have hm' : (x.val * (2 * e.T.l1 + 1) + p.val) % (2 * e.T.l1 + 1) = p.val := by
    rw [Nat.mul_comm, Nat.mul_add_mod, Nat.mod_eq_of_lt p.isLt]
  rw [hv, hd, hm, hd', hm']
  unfold Tri.word Tri.coef
  split_ifs
  · rfl
  · exact ofBits_zero

/-- WHAT A PIECE HOLDS: at batch element `n` the triple's products of that element's columns. -/
theorem rPiece_apply (e : Entry) (he : e.good) (v : FVec Ideal ⟨3, ![256, 288, 2]⟩ .f32) (n : Fin 256) (i j : Fin 8)
    (x : Fin (2 * e.T.l + 1)) (c : Fin 2) (k : Fin (64 * (2 * e.T.l + 1))) (hk : k.val = (i.val * 8 + j.val) * (2 * e.T.l + 1) + x.val) :
    rPiece e v (ix3 n k c) = e.T.val (fun a => v (ix3 n a 0)) (fun a => v (ix3 n a 1)) i j x.val c := by
  unfold rPiece shapeCast
  rw [Shape.reshapeEquiv_eq_of_rowMajor (casts_piece e.T.l) (x := ix3 n k c) (y := ix5 n i j x c)]
  · unfold transpose
    have e1 : (transposes_piece (2 * e.T.l + 1)).src (ix5 n i j x c) = ix5 n i j c x := by
      funext a
      match a with
      | ⟨0, _⟩ => rfl
      | ⟨1, _⟩ => rfl
      | ⟨2, _⟩ => rfl
      | ⟨3, _⟩ => rfl
      | ⟨4, _⟩ => rfl
    rw [e1, rDot_apply]
    unfold Tri.val
    refine Finset.sum_congr rfl fun p _ => Finset.sum_congr rfl fun q _ => ?_
    rw [rProd_apply, rFrag_apply, rFrag_apply, rFrag_apply, rFrag_apply, rPart_apply, rPart_apply, rPart_apply, rPart_apply, mul_comm]
    exact congrArg (· * _) (tab_coef e he x p q)
  · rw [Shape.rowMajor_val_three, Shape.rowMajor_val_succ, Shape.rowMajor_val_four]
    show n.val * (⟨4, ![8, 8, 2 * e.T.l + 1, 2]⟩ : Shape).numel + (((i.val * 8 + j.val) * (2 * e.T.l + 1) + x.val) * 2 + c.val)
      = (n.val * (64 * (2 * e.T.l + 1)) + k.val) * 2 + c.val
    have : (⟨4, ![8, 8, 2 * e.T.l + 1, 2]⟩ : Shape).numel = 64 * (2 * e.T.l + 1) * 2 := by
      simp [Shape.numel, Fin.prod_univ_succ]; ring
    rw [this, hk]; ring

end Cert.CG
-- ==== Proof.RefTable.lean ====
/- The reference's tables of coefficients, first three runs: each holds its triple's words. -/
module

public import proofs.«01_k».proof.Proof.RefPlan

@[expose] public section

namespace Cert.CG

/-- The tables of the first run hold their triples' words. -/
theorem good0 : ∀ e ∈ refs0, e.good := by decide +kernel

/-- The tables of the second run hold their triples' words. -/
theorem good1 : ∀ e ∈ refs1, e.good := by decide +kernel

/-- The tables of the third run hold their triples' words. -/
theorem good2 : ∀ e ∈ refs2, e.good := by decide +kernel

end Cert.CG
-- ==== Proof.RefTableEnd.lean ====
/- The reference's tables of coefficients, last two runs: each holds its triple's words. -/
module

public import proofs.«01_k».proof.Proof.RefPlan

@[expose] public section

namespace Cert.CG

/-- The tables of the fourth run hold their triples' words. -/
theorem good3 : ∀ e ∈ refs3, e.good := by decide +kernel

/-- The tables of the fifth run hold their triples' words. -/
theorem good4 : ∀ e ∈ refs4, e.good := by decide +kernel

end Cert.CG
-- ==== Proof.RefValue.lean ====
/- The reference's result as its pieces laid end to end, and what it holds at the rows of each triple. -/
module

public import proofs.«01_k».proof.Proof.Ref
public import proofs.«01_k».proof.Proof.RefTable
public import proofs.«01_k».proof.Proof.RefTableEnd

@[expose] public section

noncomputable section

namespace Cert.CG

open Idealize.ShloMosaic Idealize.ShloMosaic.ValueIdx

variable {F : FTy → Type} [FloatOps F]

/-- The shape of a piece. -/
abbrev Entry.shape (e : Entry) : Shape := ⟨3, ![256, 64 * (2 * e.T.l + 1), 2]⟩

/-- Pieces laid end to end. -/
structure Span where
  /-- The rows of all. -/
  N : ℕ
  /-- The pieces. -/
  L : List Entry
  /-- They fill the rows. -/
  fill : Shape.Concatenates (L.map Entry.shape) ⟨3, ![256, N, 2]⟩ 1

/-- The shape of pieces laid end to end. -/
abbrev Span.shape (g : Span) : Shape := ⟨3, ![256, g.N, 2]⟩

/-- The reference's five runs of pieces. -/
def spans : List Span := [
  ⟨2304, refs0, by decide +kernel⟩,
  ⟨5504, refs1, by decide +kernel⟩,
  ⟨7808, refs2, by decide +kernel⟩,
  ⟨10112, refs3, by decide +kernel⟩,
  ⟨3520, refs4, by decide +kernel⟩]

/-- The runs fill the result. -/
theorem spans_fill : Shape.Concatenates (spans.map Span.shape) ⟨3, ![256, 29248, 2]⟩ 1 := by decide +kernel

/-- What one run holds, of the argument. -/
def rSpan (g : Span) (v : FVec F ⟨3, ![256, 288, 2]⟩ .f32) : FVec F g.shape .f32 :=
  concatenate g.shape 1 (g.L.map fun e => (⟨e.shape, rPiece e v⟩ : (s : Shape) × FVec F s .f32))
    (by rw [List.map_map]; exact g.fill)

/-- The reference's result, of the argument. -/
def rResult (v : FVec F ⟨3, ![256, 288, 2]⟩ .f32) : FVec F ⟨3, ![256, 29248, 2]⟩ .f32 :=
  concatenate ⟨3, ![256, 29248, 2]⟩ 1 (spans.map fun g => (⟨g.shape, rSpan g v⟩ : (s : Shape) × FVec F s .f32))
    (by rw [List.map_map]; exact spans_fill)

/-- Arrays laid end to end along the rows, read inside one of them. -/
theorem cat_apply {ι : Type} (L : List ι) (w : ι → ℕ) (N : ℕ) (f : ∀ a, FVec Ideal ⟨3, ![256, w a, 2]⟩ .f32)
    (h : Shape.Concatenates ((L.map fun a => (⟨⟨3, ![256, w a, 2]⟩, f a⟩ : (s : Shape) × FVec Ideal s .f32)).map (·.1))
      ⟨3, ![256, N, 2]⟩ 1)
    (k : ℕ) (hk : k < L.length) (n : Fin 256) (y : Fin N) (c : Fin 2) (r : Fin (w L[k]))
    (hy : ((L.take k).map w).sum + r.val = y.val) :
    concatenate ⟨3, ![256, N, 2]⟩ 1 (L.map fun a => (⟨⟨3, ![256, w a, 2]⟩, f a⟩ : (s : Shape) × FVec Ideal s .f32)) h (ix3 n y c)
      = f L[k] (ix3 n r c) := by
  refine concatenate_apply_piece (t := ⟨3, ![256, N, 2]⟩) 1 _ h (ix3 n y c) k (by rw [List.length_map]; exact hk)
    ⟨3, ![256, w L[k], 2]⟩ (f L[k]) (by rw [List.getElem_map]) rfl ((L.take k).map w).sum ?_ (ix3 n r c) ?_ hy
  · rw [← List.map_take, List.map_map, List.map_map]
    rfl
  · intro b hb
    match b with
    | ⟨0, _⟩ => rfl
    | ⟨1, _⟩ => exact absurd rfl hb
    | ⟨2, _⟩ => rfl

deriving instance DecidableEq for Tri

/-- Every triple is a piece of a run, and the rows before it are as many as the triple's first. -/
theorem plan_in_spans : ∀ T ∈ plan, ∃ g : Fin spans.length, ∃ k : Fin spans[g].L.length, spans[g].L[k].T = T
    ∧ ((spans.take g).map Span.N).sum + ((spans[g].L.take k).map fun e => 64 * (2 * e.T.l + 1)).sum = T.base := by
  decide +kernel

/-- Every piece's table is good. -/
theorem spans_good : ∀ g ∈ spans, ∀ e ∈ g.L, e.good := by
  intro g hg
  simp only [spans, List.mem_cons, List.not_mem_nil, or_false] at hg
  rcases hg with rfl | rfl | rfl | rfl | rfl
  exacts [good0, good1, good2, good3, good4]

/-- WHAT THE REFERENCE HOLDS at a triple's rows: at batch element `n` the triple's products of that element's columns. -/
theorem rResult_apply (T : Tri) (hT : T ∈ plan) (v : FVec Ideal ⟨3, ![256, 288, 2]⟩ .f32) (n : Fin 256) (i j : Fin 8)
    (x : Fin (2 * T.l + 1)) (c : Fin 2) (y : Fin 29248) (hy : y.val = T.base + ((i.val * 8 + j.val) * (2 * T.l + 1) + x.val)) :
    rResult v (ix3 n y c) = T.val (fun a => v (ix3 n a 0)) (fun a => v (ix3 n a 1)) i j x.val c := by
  obtain ⟨g, k, rfl, hb⟩ := plan_in_spans T hT
  have hgood := spans_good spans[g] (List.getElem_mem _) spans[g].L[k] (List.getElem_mem _)
  have hr : (i.val * 8 + j.val) * (2 * spans[g].L[k].T.l + 1) + x.val < 64 * (2 * spans[g].L[k].T.l + 1) := by
    have h1 : i.val * 8 + j.val ≤ 63 := by omega
    have h2 := Nat.mul_le_mul_right (2 * spans[g].L[k].T.l + 1) h1
    have := x.isLt
    omega
  have hN : (spans[g].L.take k |>.map fun e => 64 * (2 * e.T.l + 1)).sum
      + ((i.val * 8 + j.val) * (2 * spans[g].L[k].T.l + 1) + x.val) < spans[g].N := by
    have hs := spans[g].fill.2.2
    have e1 : ((spans[g].L.map Entry.shape).map fun s => if h : s.rank = 3 then s.size ((1 : Fin 3).cast h.symm) else 0)
        = spans[g].L.map fun e => 64 * (2 * e.T.l + 1) := by rw [List.map_map]; rfl
    have hs' : (spans[g].L.map fun e => 64 * (2 * e.T.l + 1)).sum = spans[g].N := by rw [← e1]; exact hs
    have hd : (spans[g].L.map fun e => 64 * (2 * e.T.l + 1)).sum
        = ((spans[g].L.take k).map fun e => 64 * (2 * e.T.l + 1)).sum + ((spans[g].L.drop k).map fun e => 64 * (2 * e.T.l + 1)).sum := by
      rw [← List.sum_append, ← List.map_append, List.take_append_drop]
    rw [List.drop_eq_getElem_cons k.isLt, List.map_cons, List.sum_cons] at hd
    have hx : (spans[g].L[k.val]'k.isLt) = spans[g].L[k] := rfl
    rw [hx] at hd
    omega
  unfold rResult
  rw [cat_apply spans Span.N 29248 (fun g => rSpan g v) _ g.val g.isLt n y c ⟨_, hN⟩ (by
    show _ + (_ + _) = y.val
    rw [hy, ← hb]; exact (Nat.add_assoc _ _ _).symm)]
  show rSpan spans[g] v _ = _
  unfold rSpan
  rw [cat_apply spans[g].L (fun e => 64 * (2 * e.T.l + 1)) spans[g].N (fun e => rPiece e v) _ k.val k.isLt n ⟨_, hN⟩ c ⟨_, hr⟩ rfl]
  exact rPiece_apply spans[g].L[k] hgood v n i j x c ⟨_, hr⟩ rfl

end Cert.CG
-- ==== Proof.RefRun.lean ====
/- The reference's run: the result its operations compose is the one the spans and their pieces give. -/
module

public import proofs.«01_k».proof.Proof.Gen.ReferenceIdeal.Run
public import proofs.«01_k».proof.Proof.RefValue

@[expose] public section

set_option maxRecDepth 65536

noncomputable section

namespace Cert.ReferenceIdeal.Ran

open Cert.ReferenceIdeal Cert.ReferenceIdeal.Gen Cert.ReferenceIdeal.Value Cert.CG
open Idealize.ShloMosaic Idealize.ShloMosaic.TcCoe Idealize.ShloMosaic.StableHlo Idealize.SL.Sem

/-- The composed result, as a function of the contents the run starts from, is `rResult` of the argument's. -/
theorem vals_eq : (fun V0 : Valuation τ sig (Elt Ideal) => val14 V0 (Proc.devRef .tc main_v765))
    = fun V0 => rResult (F := Ideal) (V0 (Proc.devRef .tc main_arg0)) := by
  refine (funext val14_main_v765).trans ?_
  eq_refl

/-- THE REFERENCE'S RUN: it ends with `rResult` of its argument, and its argument unchanged. -/
theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v765) = rResult (F := Ideal) (m ((c.tc : Thread nD τ).loc main_arg0))
      ∧ r.2.mem ((c.tc : Thread nD τ).loc main_arg0) = m ((c.tc : Thread nD τ).loc main_arg0)) :=
  (θ_run defs _ _).mono (fun _ h c =>
    ⟨(h c).1.trans ((val14_main_v765 (launchContents m c)).symm.trans (congrFun vals_eq (launchContents m c))), (h c).2⟩)
    (run m ρ)

/-- THE REFERENCE'S FRAME: it runs, its argument ends unchanged, and no counter is left, as it has none. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems (by decide) r.2⟩) (run m ρ)

end Cert.ReferenceIdeal.Ran

end
-- ==== Proof.Columns.lean ====
/- What one run of the kernel's body leaves in its output block, and that it is the reference's rows of the block's batch
   elements with the two parts of each element in neighbouring columns. -/
module

public import proofs.«01_k».proof.Proof.Block
public import proofs.«01_k».proof.Proof.Stores
public import proofs.«01_k».proof.Proof.RefValue

@[expose] public section

noncomputable section

namespace Cert.CG

open Idealize.ShloMosaic Idealize.ShloMosaic.ValueIdx

/-- The row of the reference's result that a column of the kernel's array is of. -/
def colRow (k : Fin 58496) : Fin 29248 := ⟨k.val / 2, by omega⟩

/-- The part that a column of the kernel's array is of. -/
def colPart (k : Fin 58496) : Fin 2 := ⟨k.val % 2, by omega⟩

/-- Every column of a triple's block is of one pair of fragments, one row and one part. -/
theorem exists_colIx (l : ℕ) (k : Fin (128 * (2 * l + 1))) :
    ∃ (i j : Fin 8) (x : Fin (2 * l + 1)) (c : Fin 2), k.val = colIx l i j x c := by
  have hk := k.isLt
  have h1 : k.val / 2 / (2 * l + 1) < 64 := by
    rw [Nat.div_div_eq_div_mul]
    exact Nat.div_lt_of_lt_mul (by rw [show 2 * (2 * l + 1) * 64 = 128 * (2 * l + 1) by ring]; exact hk)
  refine ⟨⟨k.val / 2 / (2 * l + 1) / 8, by omega⟩, ⟨k.val / 2 / (2 * l + 1) % 8, by omega⟩,
    ⟨k.val / 2 % (2 * l + 1), Nat.mod_lt _ (by omega)⟩, ⟨k.val % 2, by omega⟩, ?_⟩
  show k.val = ((k.val / 2 / (2 * l + 1) / 8 * 8 + k.val / 2 / (2 * l + 1) % 8) * (2 * l + 1) + k.val / 2 % (2 * l + 1)) * 2 + k.val % 2
  rw [Nat.div_add_mod' (k.val / 2 / (2 * l + 1)) 8, Nat.div_add_mod' (k.val / 2) (2 * l + 1), Nat.div_add_mod' k.val 2]

/-- A triple's block holds the reference's rows. -/
theorem block_eq_result (T : Tri) (hT : T ∈ plan) (v : FVec Ideal ⟨3, ![256, 288, 2]⟩ .f32) (vr vi : FVec Ideal ⟨2, ![288, 128]⟩ .f32)
    (row : Fin 128 → Fin 256) (hr : ∀ a n, vr (ix2 a n) = v (ix3 (row n) a 0)) (hi : ∀ a n, vi (ix2 a n) = v (ix3 (row n) a 1))
    (n : Fin 128) (k : Fin (128 * (2 * T.l + 1))) (K : Fin 58496) (hK : K.val = 2 * T.base + k.val) :
    T.block vr vi (ix2 n k) = rResult v (ix3 (row n) (colRow K) (colPart K)) := by
  obtain ⟨i, j, x, c, hk⟩ := exists_colIx T.l k
  have hc : colPart K = c := Fin.ext (by
    show K.val % 2 = c.val
    unfold colIx at hk
    have := c.isLt
    omega)
  have hrow : (colRow K).val = T.base + ((i.val * 8 + j.val) * (2 * T.l + 1) + x.val) := by
    show K.val / 2 = _
    unfold colIx at hk
    have := c.isLt
    omega
  rw [block_apply T vr vi i j x c n k hk, hc, rResult_apply T hT v (row n) i j x c (colRow K) hrow]
  congr 1
  · funext a; exact hr a n
  · funext a; exact hi a n

/-- WHAT THE BODY LEAVES in its output block: the reference's rows of the block's batch elements. -/
theorem canon_eq_result (v : FVec Ideal ⟨3, ![256, 288, 2]⟩ .f32) (vr vi : FVec Ideal ⟨2, ![288, 128]⟩ .f32)
    (row : Fin 128 → Fin 256) (hr : ∀ a n, vr (ix2 a n) = v (ix3 (row n) a 0)) (hi : ∀ a n, vi (ix2 a n) = v (ix3 (row n) a 1))
    (y : (⟨2, ![128, 58496]⟩ : Shape).Idx) :
    View.canon (pieces (F := Ideal) vr vi plan) y = rResult v (ix3 (row (y 0)) (colRow (y 1)) (colPart (y 1))) := by
  refine View.canon_apply_of_pieces (Val := Elt Ideal) (S := ⟨2, ![128, 58496]⟩) (e := .f32)
    (fun y => rResult v (ix3 (row (y 0)) (colRow (y 1)) (colPart (y 1)))) _ ?_ y (pieces_cover vr vi y)
  intro p hp z
  obtain ⟨T, hT, rfl⟩ := List.mem_map.1 (List.mem_reverse.1 hp)
  have hz : z = (ix2 (z 0) (z 1) : (⟨2, ![128, 128 * (2 * T.l + 1)]⟩ : Shape).Idx) := by
    funext a
    match a with
    | ⟨0, _⟩ => rfl
    | ⟨1, _⟩ => rfl
  have h0 : T.rect.emb z 0 = z 0 := Fin.ext (by
    show 0 + 1 * (z 0).val = (z 0).val
    omega)
  have h1 : (T.rect.emb z 1).val = 2 * T.base + (z 1).val := by
    show 2 * T.base + 1 * (z 1).val = 2 * T.base + (z 1).val
    omega
  show T.block vr vi z = rResult v (ix3 (row (T.rect.emb z 0)) (colRow (T.rect.emb z 1)) (colPart (T.rect.emb z 1)))
  rw [h0, ← block_eq_result T hT v vr vi row hr hi (z 0) (z 1) (T.rect.emb z 1) h1]
  exact congrArg _ hz

end Cert.CG
-- ==== Proof.KernelIdealValue.lean ====
/- What the kernel's arrays hold: the parts it is given, the array its blocks fill, and its result. -/
module

public import proofs.«01_k».proof.Proof.KernelIdealRun
public import proofs.«01_k».proof.Proof.Columns
public import Idealize.ShloMosaic.Lib.Pipeline.ValueKit.Geometry

@[expose] public section

set_option maxRecDepth 16384

noncomputable section

namespace Cert.KernelIdeal.Launched

open Cert.KernelIdeal.Gen Cert.CG
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The argument on a core. -/
abbrev arg (c : Dev nD) : FVec Ideal ⟨3, ![256, 288, 2]⟩ .f32 := m ((c : Thread nD τ).loc main_arg0)

/-- The first input array is the real part, transposed. -/
theorem V_re (c : Dev nD) : V m c main_v2 = transpose S288x256 [1, 0] (rPart 0 (arg m c)) transposes_S256x288_S288x256_1_0 := by
  unfold V V0
  simp only [hostOps0, List.flatten_cons, List.flatten_nil, List.append_nil]
  open StableHlo in after_results
  rfl

/-- The second input array is the imaginary part, transposed. -/
theorem V_im (c : Dev nD) : V m c main_v5 = transpose S288x256 [1, 0] (rPart 1 (arg m c)) transposes_S256x288_S288x256_1_0 := by
  unfold V V0
  simp only [hostOps0, List.flatten_cons, List.flatten_nil, List.append_nil]
  open StableHlo in after_results
  rfl

/-- An element of a transposed part. -/
theorem part_apply (p : Fin 2) (v : FVec Ideal ⟨3, ![256, 288, 2]⟩ .f32) (a : Fin 288) (n : Fin 256) :
    transpose S288x256 [1, 0] (rPart p v) transposes_S256x288_S288x256_1_0 (ix2 a n) = v (ix3 n a p) := by
  rw [transpose_apply [1, 0] _ _ (ix2 a n) (ix2 n a) (fun b => by
    match b with
    | ⟨0, _⟩ => rfl
    | ⟨1, _⟩ => rfl)]
  exact rPart_apply p v n a

/-- The windows' blocks: the inputs' columns and the output's rows of the point's batch elements. -/
theorem index0 : ∀ t : Fin cfg0.N, win0_0.index t = ![0, t.val] := (by decide +kernel : ∀ t : Fin grid0.N, _)
/-- The second input's likewise. -/
theorem index1 : ∀ t : Fin cfg0.N, win0_1.index t = ![0, t.val] := (by decide +kernel : ∀ t : Fin grid0.N, _)
/-- The output's. -/
theorem index2 : ∀ t : Fin cfg0.N, win0_2.index t = ![t.val, 0] := (by decide +kernel : ∀ t : Fin grid0.N, _)

/-- The batch element of a row of a point's block. -/
def rowAt (t : Fin cfg0.N) (n : Fin 128) : Fin 256 :=
  ⟨t.val * 128 + n.val, by have h : t.val < 2 := t.isLt; omega⟩

/-- An element of the first input's block. -/
theorem iblk_re (c : Dev nD) (t : Fin cfg0.N) (a : Fin 288) (n : Fin 128) :
    (iblk m c 0 t : FVec Ideal ⟨2, ![288, 128]⟩ .f32) (ix2 a n) = arg m c (ix3 (rowAt t n) a 0) := by
  have e : (win0_0.blk t).view.emb (ix2 a n) = (ix2 a (rowAt t n) : (⟨2, ![288, 256]⟩ : Shape).Idx) := by
    funext b
    apply Fin.ext
    match b with
    | ⟨0, _⟩ => blk_simp [index0]
    | ⟨1, _⟩ => blk_simp [index0]; rfl
  refine (show (iblk m c 0 t) (ix2 a n) = V m c main_v2 ((win0_0.blk t).view.emb (ix2 a n)) from rfl).trans ?_
  rw [e, V_re]
  exact part_apply 0 _ a _

/-- An element of the second input's block. -/
theorem iblk_im (c : Dev nD) (t : Fin cfg0.N) (a : Fin 288) (n : Fin 128) :
    (iblk m c 1 t : FVec Ideal ⟨2, ![288, 128]⟩ .f32) (ix2 a n) = arg m c (ix3 (rowAt t n) a 1) := by
  have e : (win0_1.blk t).view.emb (ix2 a n) = (ix2 a (rowAt t n) : (⟨2, ![288, 256]⟩ : Shape).Idx) := by
    funext b
    apply Fin.ext
    match b with
    | ⟨0, _⟩ => blk_simp [index1]
    | ⟨1, _⟩ => blk_simp [index1]; rfl
  refine (show (iblk m c 1 t) (ix2 a n) = V m c main_v5 ((win0_1.blk t).view.emb (ix2 a n)) from rfl).trans ?_
  rw [e, V_im]
  exact part_apply 1 _ a _

/-- The reference's result with each row's two parts in neighbouring columns. -/
def flat (v : FVec Ideal ⟨3, ![256, 288, 2]⟩ .f32) : FVec Ideal ⟨2, ![256, 58496]⟩ .f32 :=
  fun y => rResult v (ix3 (y 0) (colRow (y 1)) (colPart (y 1)))

/-- THE ARRAY the blocks fill is the reference's result, its two last axes in one. -/
theorem array_eq (c : Dev nD) : (dats m 0 c).arrAt 2 cfg0.N = flat (arg m c) := by
  refine (dats m 0 c).arrAt_eq_of_covers 2 _ (by decide +kernel) fun t _ y => ?_
  blk_simp
  rw [after0_2]
  refine (canon_eq_result (arg m c) _ _ (rowAt t) (iblk_re m c t) (iblk_im m c t) y).trans ?_
  have e0 : (win0_2.blk t).view.emb y 0 = rowAt t (y 0) := Fin.ext (by blk_simp [index2]; rfl)
  have e1 : (win0_2.blk t).view.emb y 1 = y 1 := Fin.ext (by blk_simp [index2])
  show _ = rResult _ (ix3 ((win0_2.blk t).view.emb y 0) (colRow ((win0_2.blk t).view.emb y 1)) (colPart ((win0_2.blk t).view.emb y 1)))
  rw [e0, e1]

/-- The array with its columns split into rows and parts is the reference's result. -/
theorem unflat (v : FVec Ideal ⟨3, ![256, 288, 2]⟩ .f32) (h : S256x58496.ShapeCasts S256x29248x2) :
    shapeCast S256x29248x2 (flat v) h = rResult v := by
  funext y
  obtain ⟨n, r, c, rfl⟩ : ∃ (n : Fin 256) (r : Fin 29248) (c : Fin 2), y = ix3 n r c := ⟨y 0, y 1, y 2, by
    funext a
    match a with
    | ⟨0, _⟩ => rfl
    | ⟨1, _⟩ => rfl
    | ⟨2, _⟩ => rfl⟩
  have hlt : r.val * 2 + c.val < 58496 := by omega
  unfold shapeCast
  rw [Shape.reshapeEquiv_eq_of_rowMajor h (x := ix3 n r c) (y := (ix2 n ⟨r.val * 2 + c.val, hlt⟩ : (⟨2, ![256, 58496]⟩ : Shape).Idx))]
  · have hr : colRow ⟨r.val * 2 + c.val, hlt⟩ = r := Fin.ext (by show (r.val * 2 + c.val) / 2 = r.val; omega)
    have hc : colPart ⟨r.val * 2 + c.val, hlt⟩ = c := Fin.ext (by show (r.val * 2 + c.val) % 2 = c.val; omega)
    show rResult v (ix3 n (colRow ⟨r.val * 2 + c.val, hlt⟩) (colPart ⟨r.val * 2 + c.val, hlt⟩)) = _
    rw [hr, hc]
  · rw [Shape.rowMajor_val_two, Shape.rowMajor_val_three]
    show n.val * 58496 + (r.val * 2 + c.val) = (n.val * 29248 + r.val) * 2 + c.val
    omega

/-- WHAT THE KERNEL RETURNS is the reference's result. -/
theorem tail_eq (c : Dev nD) : Pipeline.afterTail₀ cfgs (dats m) 0 (V0 m) [hostOps1] c main_v7 = rResult (arg m c) := by
  unfold Pipeline.afterTail₀
  simp only [hostOps1, List.flatten_cons, List.flatten_nil, List.append_nil]
  open StableHlo in after_results
  have e : Pipeline.withArrays (cfgs 0).spec c (V0 m c) (fun w => (dats m 0 c).arrAt w (cfgs 0).N) (Proc.devRef .tc main_v6)
      = flat (arg m c) :=
    (Pipeline.withArrays_arr spec0 (by decide +kernel) c (V0 m c) (fun w => (dats m 0 c).arrAt w (cfgs 0).N) 2).trans (array_eq m c)
  refine Eq.trans ?_ (unflat (arg m c) shapeCasts_S256x58496_S256x29248x2)
  rw [← e]
  rfl

/-- THE KERNEL'S RUN: it ends with the reference's result and its argument unchanged. -/
theorem value : θ_run defs (onTc (τ := τ) (main (F := Ideal))) ⟨m, fun _ => 0, ρ⟩ (fun r => ∀ c : Dev nD,
      r.2.mem ((c.tc : Thread nD τ).loc main_v7) = rResult (arg m c)
      ∧ r.2.mem ((c.tc : Thread nD τ).loc main_arg0) = m ((c.tc : Thread nD τ).loc main_arg0)) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c)⟩)
    (run_main m ρ)

end Cert.KernelIdeal.Launched

end
-- ==== Proof.Equation.lean ====
/- The equation: from memories that agree on the argument, the kernel and the reference end with equal results. -/
module

public import proofs.«01_k».proof.Proof.KernelIdealValue
public import proofs.«01_k».proof.Proof.RefRun
public import proofs.«01_k».proof.Defs

@[expose] public section

noncomputable section

namespace Cert.Proof

open Idealize.ShloMosaic Idealize.SL.Sem

/-- THE EQUATION: the shared result is `rResult` of the kernel's argument, which both programs end with. -/
theorem algebraic : Cert.algebraic_KernelIdeal_ReferenceIdeal
    (hKernelIdeal := Cert.KernelIdeal.Gen.facts) (hReferenceIdeal := Cert.ReferenceIdeal.Gen.facts) := by
  intro m ρ m' ρ' _ hargs
  refine ⟨fun c => Cert.CG.rResult (F := Ideal) (Cert.KernelIdeal.Launched.arg m c),
    Cert.KernelIdeal.Launched.value m ρ, ?_⟩
  refine (θ_run _ _ _).mono (fun _ h c => ⟨(h c).1.trans (congrArg (Cert.CG.rResult (F := Ideal)) (hargs c)), (h c).2⟩)
    (Cert.ReferenceIdeal.Ran.value m' ρ')

end Cert.Proof

end
-- ==== Proof.lean ====
/- The claim: the three programs' frames, the idealization, and the equation of the kernel's and the reference's results. -/
module

public import proofs.«01_k».proof.Defs
public import proofs.«01_k».proof.Proof.KernelRun
public import proofs.«01_k».proof.Proof.KernelIdealRun
public import proofs.«01_k».proof.Proof.RefRun
public import proofs.«01_k».proof.Proof.Equation

@[expose] public section

noncomputable section

namespace Cert.Proof

open Idealize.ShloMosaic Idealize.SL.Sem

/-- The certificate's claim, with the programs' facts witnessed: three frames, nothing rewritten, equal results. -/
theorem claim : Cert.Claim :=
  ⟨Cert.Kernel.Gen.facts, Cert.KernelIdeal.Gen.facts, Cert.ReferenceIdeal.Gen.facts,
    fun m ρ _ => Cert.Kernel.Launched.frame m ρ,
    fun m ρ _ => Cert.KernelIdeal.Launched.frame m ρ,
    fun m ρ _ => Cert.ReferenceIdeal.Ran.frame m ρ,
    trivial,
    algebraic⟩

end Cert.Proof

end
